-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain [hPre_plain : Cert.Pre_plain.Facts] (m : (ℓ : Loc Cert.KernelIdeal.nD Cert.KernelIdeal.τ Cert.KernelIdeal.sig) → Buf (Elt Ideal) ℓ) : Prop :=
  ∀ c : Dev Cert.KernelIdeal.nD,
    (Cert.Pre_plain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_plain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_plain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_plain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain [hPre_plain : Cert.Pre_plain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_plain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_plain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_plain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_plain [hKernelIdeal : Cert.KernelIdeal.Facts] [hPre_plain : Cert.Pre_plain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_plain [hReferenceIdeal : Cert.ReferenceIdeal.Facts] [hPre_plain : Cert.Pre_plain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_plain [hKernelIdeal : Cert.KernelIdeal.Facts] [hReferenceIdeal : Cert.ReferenceIdeal.Facts] [hPre_plain : Cert.Pre_plain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v32)) (v4 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_v35) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_v55) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_plain : Cert.Pre_plain.Facts),
    quiescent_Kernel (hKernel := hKernel)
    ∧ quiescent_KernelIdeal (hKernelIdeal := hKernelIdeal)
    ∧ quiescent_KernelIdeal_pre_plain (hKernelIdeal := hKernelIdeal) (hPre_plain := hPre_plain)
    ∧ quiescent_ReferenceIdeal (hReferenceIdeal := hReferenceIdeal)
    ∧ quiescent_ReferenceIdeal_pre_plain (hReferenceIdeal := hReferenceIdeal) (hPre_plain := hPre_plain)
    ∧ preserves_Kernel_KernelIdeal
    ∧ algebraic_KernelIdeal_ReferenceIdeal_pre_plain (hKernelIdeal := hKernelIdeal) (hReferenceIdeal := hReferenceIdeal) (hPre_plain := hPre_plain)
-- ==== Pre_plain.lean ====
abbrev S1024x64 : Shape := ⟨2, ![1024, 64]⟩
abbrev S64x100000 : Shape := ⟨2, ![64, 100000]⟩
abbrev S100000x1 : Shape := ⟨2, ![100000, 1]⟩
abbrev S1024x100000 : Shape := ⟨2, ![1024, 100000]⟩
abbrev S_ : Shape := ⟨0, ![]⟩

class Facts : Prop where
  bcast_S_S1024x64 : S_.BroadcastsInDim S1024x64 (![] : Fin 0 → Fin S1024x64.rank)
  bcast_S_S64x100000 : S_.BroadcastsInDim S64x100000 (![] : Fin 0 → Fin S64x100000.rank)

variable [Facts]

def fn {F : FTy → Type} [FloatOps F] (main_arg0 : FVec F S1024x64 .f32) (main_arg1 : FVec F S1024x64 .f32) (main_arg2 : FVec F S64x100000 .f32) (main_arg3 : FVec F S64x100000 .f32) (main_arg4 : IVec S100000x1 32) (main_arg5 : IVec S1024x100000 1) : IVec S1024x64 1 × IVec S64x100000 1 × IVec S100000x1 1 × IVec S1024x100000 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_v3 : FVec F S64x100000 .f32 := Host.absf main_arg2
  let main_cst_0 : FVec F S_ .f32 := constant S_ .f32 0x7F800000#32
  let main_v4 : FVec F S64x100000 .f32 := broadcastInDim S64x100000 ![] bcast_S_S64x100000 main_cst_0
  let main_v5 : IVec S64x100000 1 := cmpf .olt main_v3 main_v4
  let main_v6 : IVec S100000x1 32 := iotaInDim S100000x1 32 0
  let main_v7 : IVec S100000x1 1 := cmpi .eq main_arg4 main_v6
  let main_v8 : IVec S1024x100000 1 := noti main_arg5
  (main_v2, main_v5, main_v7, main_v8)
-- ==== Kernel.lean ====
abbrev S1024x64 : Shape := ⟨2, ![1024, 64]⟩
abbrev S64x100000 : Shape := ⟨2, ![64, 100000]⟩
abbrev S100000x1 : Shape := ⟨2, ![100000, 1]⟩
abbrev S1024x100000 : Shape := ⟨2, ![1024, 100000]⟩
abbrev S_ : Shape := ⟨0, ![]⟩
abbrev S64x100352 : Shape := ⟨2, ![64, 100352]⟩
abbrev S1024x100352 : Shape := ⟨2, ![1024, 100352]⟩
abbrev S64x512 : Shape := ⟨2, ![64, 512]⟩
abbrev S1024x512 : Shape := ⟨2, ![1024, 512]⟩
abbrev S1024x1024 : Shape := ⟨2, ![1024, 1024]⟩
abbrev S64x1024 : Shape := ⟨2, ![64, 1024]⟩
abbrev S64x8x128 : Shape := ⟨3, ![64, 8, 128]⟩
abbrev S64x8x128x1 : Shape := ⟨4, ![64, 8, 128, 1]⟩
abbrev S1024x1000 : Shape := ⟨2, ![1024, 1000]⟩
abbrev S1000 : Shape := ⟨1, ![1000]⟩
abbrev S1024x1000x1 : Shape := ⟨3, ![1024, 1000, 1]⟩
abbrev S1024x1000x2 : Shape := ⟨3, ![1024, 1000, 2]⟩
abbrev S1 : Shape := ⟨1, ![1]⟩
abbrev S1x1x1 : Shape := ⟨3, ![1, 1, 1]⟩
abbrev S1024x10 : Shape := ⟨2, ![1024, 10]⟩
abbrev S1024x10x1 : Shape := ⟨3, ![1024, 10, 1]⟩
abbrev S1024x10x2 : Shape := ⟨3, ![1024, 10, 2]⟩
abbrev S10 : Shape := ⟨1, ![10]⟩
abbrev S1024x10x3 : Shape := ⟨3, ![1024, 10, 3]⟩
abbrev S100000x64 : Shape := ⟨2, ![100000, 64]⟩
abbrev S10240 : Shape := ⟨1, ![10240]⟩
abbrev S10240x1 : Shape := ⟨2, ![10240, 1]⟩
abbrev S1x1 : Shape := ⟨2, ![1, 1]⟩
abbrev S10240x64 : Shape := ⟨2, ![10240, 64]⟩
abbrev S1024x10x64 : Shape := ⟨3, ![1024, 10, 64]⟩
abbrev S1024x5 : Shape := ⟨2, ![1024, 5]⟩
abbrev S1024x5x1 : Shape := ⟨3, ![1024, 5, 1]⟩
abbrev S1024x5x3 : Shape := ⟨3, ![1024, 5, 3]⟩
abbrev S5 : Shape := ⟨1, ![5]⟩
abbrev S1024x5x4 : Shape := ⟨3, ![1024, 5, 4]⟩

abbrev nBuf : Space → Nat
  | .hbm => 137
  | .vmem => 20
  | .smem => 0
  | _ => 0

abbrev hbmTy0_0 (i : Nat) : BufTy := match i % 128 with
  | 0 => ⟨S1024x64, .f32⟩
  | 1 => ⟨S1024x64, .f32⟩
  | 2 => ⟨S64x100000, .f32⟩
  | 3 => ⟨S64x100000, .f32⟩
  | 4 => ⟨S100000x1, .i32⟩
  | 5 => ⟨S1024x100000, .i1⟩
  | 6 => ⟨S_, .i32⟩
  | 7 => ⟨S_, .f32⟩
  | 8 => ⟨S64x100352, .f32⟩
  | 9 => ⟨S_, .i32⟩
  | 10 => ⟨S_, .f32⟩
  | 11 => ⟨S64x100352, .f32⟩
  | 12 => ⟨S1024x100352, .f32⟩
  | 13 => ⟨S1024x100352, .f32⟩
  | 14 => ⟨S1024x1024, .i32⟩
  | 15 => ⟨S1024x1000, .i32⟩
  | 16 => ⟨S1000, .i32⟩
  | 17 => ⟨S1024x1000, .i32⟩
  | 18 => ⟨S1024x1000x1, .i32⟩
  | 19 => ⟨S1024x1000x1, .i32⟩
  | 20 => ⟨S1024x1000x2, .i32⟩
  | 21 => ⟨S_, .i32⟩
  | 22 => ⟨S1024x1000, .i32⟩
  | 23 => ⟨S1024x1000, .i1⟩
  | 24 => ⟨S_, .i32⟩
  | 25 => ⟨S1024x1000, .i32⟩
  | 26 => ⟨S1024x1000, .i32⟩
  | 27 => ⟨S1024x1000, .i32⟩
  | 28 => ⟨S1024x1000x1, .i32⟩
  | 29 => ⟨S1, .i32⟩
  | 30 => ⟨S_, .i32⟩
  | 31 => ⟨S1024x1000x1, .i32⟩
  | 32 => ⟨S1024x1000x1, .i1⟩
  | 33 => ⟨S1x1x1, .i32⟩
  | 34 => ⟨S1024x1000x1, .i32⟩
  | 35 => ⟨S1024x1000x1, .i1⟩
  | 36 => ⟨S1024x1000x1, .i1⟩
  | 37 => ⟨S_, .i1⟩
  | 38 => ⟨S1024x1000, .i1⟩
  | 39 => ⟨S1024x1000, .f32⟩
  | 40 => ⟨S_, .f32⟩
  | 41 => ⟨S1024x1000, .f32⟩
  | 42 => ⟨S1024x1000, .f32⟩
  | 43 => ⟨S_, .f32⟩
  | 44 => ⟨S_, .f32⟩
  | 45 => ⟨S1024x1024, .f32⟩
  | 46 => ⟨S1024x1024, .i32⟩
  | 47 => ⟨S1024x10, .i32⟩
  | 48 => ⟨S1024x10x1, .i32⟩
  | 49 => ⟨S_, .i32⟩
  | 50 => ⟨S1024x10x1, .i32⟩
  | 51 => ⟨S1024x10x1, .i1⟩
  | 52 => ⟨S_, .i32⟩
  | 53 => ⟨S1024x10x1, .i32⟩
  | 54 => ⟨S1024x10x1, .i32⟩
  | 55 => ⟨S1024x10x1, .i32⟩
  | 56 => ⟨S1, .i32⟩
  | 57 => ⟨S_, .i32⟩
  | 58 => ⟨S1024x10x1, .i32⟩
  | 59 => ⟨S1024x10x1, .i1⟩
  | 60 => ⟨S1x1x1, .i32⟩
  | 61 => ⟨S1024x10x1, .i32⟩
  | 62 => ⟨S1024x10x1, .i1⟩
  | 63 => ⟨S1024x10x1, .i1⟩
  | 64 => ⟨S_, .i1⟩
  | 65 => ⟨S1024x10, .i1⟩
  | 66 => ⟨S1024x10x2, .i32⟩
  | 67 => ⟨S1024x10x2, .i1⟩
  | 68 => ⟨S_, .i32⟩
  | 69 => ⟨S1024x10x2, .i32⟩
  | 70 => ⟨S1024x10x2, .i32⟩
  | 71 => ⟨S10, .i32⟩
  | 72 => ⟨S1024x10, .i32⟩
  | 73 => ⟨S1024x10x1, .i32⟩
  | 74 => ⟨S1024x10x3, .i32⟩
  | 75 => ⟨S1024x10x1, .i32⟩
  | 76 => ⟨S1024x10, .i32⟩
  | 77 => ⟨S100000x64, .f32⟩
  | 78 => ⟨S10240, .i32⟩
  | 79 => ⟨S_, .i32⟩
  | 80 => ⟨S10240, .i32⟩
  | 81 => ⟨S10240, .i1⟩
  | 82 => ⟨S_, .i32⟩
  | 83 => ⟨S10240, .i32⟩
  | 84 => ⟨S10240, .i32⟩
  | 85 => ⟨S10240, .i32⟩
  | 86 => ⟨S10240x1, .i32⟩
  | 87 => ⟨S1, .i32⟩
  | 88 => ⟨S_, .i32⟩
  | 89 => ⟨S10240x1, .i32⟩
  | 90 => ⟨S10240x1, .i1⟩
  | 91 => ⟨S1x1, .i32⟩
  | 92 => ⟨S10240x1, .i32⟩
  | 93 => ⟨S10240x1, .i1⟩
  | 94 => ⟨S10240x1, .i1⟩
  | 95 => ⟨S_, .i1⟩
  | 96 => ⟨S10240, .i1⟩
  | 97 => ⟨S10240x64, .f32⟩
  | 98 => ⟨S10240x64, .i1⟩
  | 99 => ⟨S_, .f32⟩
  | 100 => ⟨S10240x64, .f32⟩
  | 101 => ⟨S10240x64, .f32⟩
  | 102 => ⟨S1024x10x64, .f32⟩
  | 103 => ⟨S1024x10, .f32⟩
  | 104 => ⟨S1024x5, .f32⟩
  | 105 => ⟨S1024x5, .i32⟩
  | 106 => ⟨S1024x5x1, .i32⟩
  | 107 => ⟨S_, .i32⟩
  | 108 => ⟨S1024x5x1, .i32⟩
  | 109 => ⟨S1024x5x1, .i1⟩
  | 110 => ⟨S_, .i32⟩
  | 111 => ⟨S1024x5x1, .i32⟩
  | 112 => ⟨S1024x5x1, .i32⟩
  | 113 => ⟨S1024x5x1, .i32⟩
  | 114 => ⟨S1, .i32⟩
  | 115 => ⟨S_, .i32⟩
  | 116 => ⟨S1024x5x1, .i32⟩
  | 117 => ⟨S1024x5x1, .i1⟩
  | 118 => ⟨S1x1x1, .i32⟩
  | 119 => ⟨S1024x5x1, .i32⟩
  | 120 => ⟨S1024x5x1, .i1⟩
  | 121 => ⟨S1024x5x1, .i1⟩
  | 122 => ⟨S_, .i1⟩
  | 123 => ⟨S1024x5, .i1⟩
  | 124 => ⟨S1024x5x3, .i32⟩
  | 125 => ⟨S1024x5x3, .i1⟩
  | 126 => ⟨S_, .i32⟩
  | 127 => ⟨S1024x5x3, .i32⟩
  | _ => ⟨S1024x64, .f32⟩

abbrev hbmTy0_1 (i : Nat) : BufTy := match i % 128 with
  | 0 => ⟨S1024x5x3, .i32⟩
  | 1 => ⟨S5, .i32⟩
  | 2 => ⟨S1024x5, .i32⟩
  | 3 => ⟨S1024x5x1, .i32⟩
  | 4 => ⟨S1024x5x4, .i32⟩
  | 5 => ⟨S1024x5x1, .i32⟩
  | 6 => ⟨S1024x5, .i32⟩
  | 7 => ⟨S_, .f32⟩
  | 8 => ⟨S1024x5, .f32⟩
  | _ => ⟨S1024x64, .f32⟩

abbrev hbmTy (i : Nat) : BufTy := match i / 128 with
  | 0 => hbmTy0_0 i
  | 1 => hbmTy0_1 i
  | _ => ⟨S1024x64, .f32⟩

abbrev bufTy : (tb : Table) → Fin (tcTables nBuf tb) → BufTy
  | .hbm, ⟨i, _⟩ => hbmTy i
  | .local _ .vmem, ⟨0, _⟩ => ⟨S1024x64, .f32⟩
  | .local _ .vmem, ⟨1, _⟩ => ⟨S1024x64, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S64x1024, .f32⟩
  | .local _ .vmem, ⟨11, _⟩ => ⟨S64x1024, .f32⟩
  | .local _ .vmem, ⟨12, _⟩ => ⟨S64x1024, .i32⟩
  | .local _ .vmem, ⟨13, _⟩ => ⟨S64x1024, .i32⟩
  | .local _ .vmem, ⟨14, _⟩ => ⟨S64x8x128, .f32⟩
  | .local _ .vmem, ⟨15, _⟩ => ⟨S64x8x128, .i32⟩
  | .local _ .vmem, ⟨16, _⟩ => ⟨S64x1024, .f32⟩
  | .local _ .vmem, ⟨17, _⟩ => ⟨S64x1024, .f32⟩
  | .local _ .vmem, ⟨18, _⟩ => ⟨S64x1024, .i32⟩
  | .local _ .vmem, ⟨19, _⟩ => ⟨S64x1024, .i32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call2_c : Ref sig .tc := ⟨.hbm, 21, rfl⟩
abbrev main_call2_v0 : Ref sig .tc := ⟨.hbm, 22, rfl⟩
abbrev main_call2_v1 : Ref sig .tc := ⟨.hbm, 23, rfl⟩
abbrev main_call2_c_0 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_v5 : Ref sig .tc := ⟨.hbm, 28, rfl⟩
abbrev main_call2_c_1 : Ref sig .tc := ⟨.hbm, 29, rfl⟩
abbrev main_call2_c_2 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_v9 : Ref sig .tc := ⟨.hbm, 34, rfl⟩
abbrev main_call2_v10 : Ref sig .tc := ⟨.hbm, 35, rfl⟩
abbrev main_call2_v11 : Ref sig .tc := ⟨.hbm, 36, rfl⟩
abbrev main_call2_c_3 : Ref sig .tc := ⟨.hbm, 37, rfl⟩
abbrev main_call2_v12 : Ref sig .tc := ⟨.hbm, 38, rfl⟩
abbrev main_call2_v13 : Ref sig .tc := ⟨.hbm, 39, rfl⟩
abbrev main_call2_cst : Ref sig .tc := ⟨.hbm, 40, rfl⟩
abbrev main_call2_v14 : Ref sig .tc := ⟨.hbm, 41, rfl⟩
abbrev main_v10 : Ref sig .tc := ⟨.hbm, 42, rfl⟩
abbrev main_cst : Ref sig .tc := ⟨.hbm, 43, rfl⟩
abbrev main_call3_v0 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_call4_c : Ref sig .tc := ⟨.hbm, 49, rfl⟩
abbrev main_call4_v0 : Ref sig .tc := ⟨.hbm, 50, rfl⟩
abbrev main_call4_v1 : Ref sig .tc := ⟨.hbm, 51, rfl⟩
abbrev main_call4_c_0 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_c_1 : Ref sig .tc := ⟨.hbm, 56, rfl⟩
abbrev main_call4_c_2 : Ref sig .tc := ⟨.hbm, 57, rfl⟩
abbrev main_call4_v5 : Ref sig .tc := ⟨.hbm, 58, rfl⟩
abbrev main_call4_v6 : Ref sig .tc := ⟨.hbm, 59, rfl⟩
abbrev main_call4_v7 : Ref sig .tc := ⟨.hbm, 60, rfl⟩
abbrev main_call4_v8 : Ref sig .tc := ⟨.hbm, 61, rfl⟩
abbrev main_call4_v9 : Ref sig .tc := ⟨.hbm, 62, rfl⟩
abbrev main_call4_v10 : Ref sig .tc := ⟨.hbm, 63, rfl⟩
abbrev main_call4_c_3 : Ref sig .tc := ⟨.hbm, 64, rfl⟩
abbrev main_call4_v11 : Ref sig .tc := ⟨.hbm, 65, rfl⟩
abbrev main_call4_v12 : Ref sig .tc := ⟨.hbm, 66, rfl⟩
abbrev main_call4_v13 : Ref sig .tc := ⟨.hbm, 67, rfl⟩
abbrev main_call4_c_4 : Ref sig .tc := ⟨.hbm, 68, rfl⟩
abbrev main_call4_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_call5_c : Ref sig .tc := ⟨.hbm, 79, rfl⟩
abbrev main_call5_v0 : Ref sig .tc := ⟨.hbm, 80, rfl⟩
abbrev main_call5_v1 : Ref sig .tc := ⟨.hbm, 81, rfl⟩
abbrev main_call5_c_0 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_call5_v5 : Ref sig .tc := ⟨.hbm, 86, rfl⟩
abbrev main_call5_c_1 : Ref sig .tc := ⟨.hbm, 87, rfl⟩
abbrev main_call5_c_2 : Ref sig .tc := ⟨.hbm, 88, rfl⟩
abbrev main_call5_v6 : Ref sig .tc := ⟨.hbm, 89, rfl⟩
abbrev main_call5_v7 : Ref sig .tc := ⟨.hbm, 90, rfl⟩
abbrev main_call5_v8 : Ref sig .tc := ⟨.hbm, 91, rfl⟩
abbrev main_call5_v9 : Ref sig .tc := ⟨.hbm, 92, rfl⟩
abbrev main_call5_v10 : Ref sig .tc := ⟨.hbm, 93, rfl⟩
abbrev main_call5_v11 : Ref sig .tc := ⟨.hbm, 94, rfl⟩
abbrev main_call5_c_3 : Ref sig .tc := ⟨.hbm, 95, rfl⟩
abbrev main_call5_v12 : Ref sig .tc := ⟨.hbm, 96, rfl⟩
abbrev main_call5_v13 : Ref sig .tc := ⟨.hbm, 97, rfl⟩
abbrev main_call5_v14 : Ref sig .tc := ⟨.hbm, 98, rfl⟩
abbrev main_call5_cst : Ref sig .tc := ⟨.hbm, 99, rfl⟩
abbrev main_call5_v15 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_values : Ref sig .tc := ⟨.hbm, 104, rfl⟩
abbrev main_indices : Ref sig .tc := ⟨.hbm, 105, rfl⟩
abbrev main_v27 : Ref sig .tc := ⟨.hbm, 106, rfl⟩
abbrev main_call6_c : Ref sig .tc := ⟨.hbm, 107, rfl⟩
abbrev main_call6_v0 : Ref sig .tc := ⟨.hbm, 108, rfl⟩
abbrev main_call6_v1 : Ref sig .tc := ⟨.hbm, 109, rfl⟩
abbrev main_call6_c_0 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_call6_c_1 : Ref sig .tc := ⟨.hbm, 114, rfl⟩
abbrev main_call6_c_2 : Ref sig .tc := ⟨.hbm, 115, rfl⟩
abbrev main_call6_v5 : Ref sig .tc := ⟨.hbm, 116, rfl⟩
abbrev main_call6_v6 : Ref sig .tc := ⟨.hbm, 117, rfl⟩
abbrev main_call6_v7 : Ref sig .tc := ⟨.hbm, 118, rfl⟩
abbrev main_call6_v8 : Ref sig .tc := ⟨.hbm, 119, rfl⟩
abbrev main_call6_v9 : Ref sig .tc := ⟨.hbm, 120, rfl⟩
abbrev main_call6_v10 : Ref sig .tc := ⟨.hbm, 121, rfl⟩
abbrev main_call6_c_3 : Ref sig .tc := ⟨.hbm, 122, rfl⟩
abbrev main_call6_v11 : Ref sig .tc := ⟨.hbm, 123, rfl⟩
abbrev main_call6_v12 : Ref sig .tc := ⟨.hbm, 124, rfl⟩
abbrev main_call6_v13 : Ref sig .tc := ⟨.hbm, 125, rfl⟩
abbrev main_call6_c_4 : Ref sig .tc := ⟨.hbm, 126, rfl⟩
abbrev main_call6_v14 : Ref sig .tc := ⟨.hbm, 127, rfl⟩
abbrev main_v28 : Ref sig .tc := ⟨.hbm, 128, rfl⟩
abbrev main_v29 : Ref sig .tc := ⟨.hbm, 129, rfl⟩
abbrev main_v30 : Ref sig .tc := ⟨.hbm, 130, rfl⟩
abbrev main_v31 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩
abbrev main_cst_1 : Ref sig .tc := ⟨.hbm, 135, rfl⟩
abbrev main_v35 : Ref sig .tc := ⟨.hbm, 136, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc2_sem0_0 : DmaSem sig := 14
abbrev cc2_sem0_1 : DmaSem sig := 15
abbrev cc2_sem1_0 : DmaSem sig := 16
abbrev cc2_sem1_1 : DmaSem sig := 17

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 98], ![false, false]⟩

def k1_cond2 (i : grid1.Coords) : BitVec 1 :=
  let arg1 : BitVec 32 := BitVec.ofNat 32 (i 1).val
  let c97_i32 : BitVec 32 := 97#32
  let v2998 : BitVec 1 := Scalar.cmpi .eq arg1 c97_i32
  let v2999 : BitVec 32 := Scalar.extui v2998
  let c0_i32_926 : BitVec 32 := 0#32
  let v3000 : BitVec 1 := Scalar.cmpi .ne v2999 c0_i32_926
  v3000

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x1024 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== ReferenceIdeal.lean ====
abbrev S1024x64 : Shape := ⟨2, ![1024, 64]⟩
abbrev S64x100000 : Shape := ⟨2, ![64, 100000]⟩
abbrev S100000x1 : Shape := ⟨2, ![100000, 1]⟩
abbrev S1024x100000 : Shape := ⟨2, ![1024, 100000]⟩
abbrev S100000x64 : Shape := ⟨2, ![100000, 64]⟩
abbrev S_ : Shape := ⟨0, ![]⟩
abbrev S1024x1000 : Shape := ⟨2, ![1024, 1000]⟩
abbrev S1024000 : Shape := ⟨1, ![1024000]⟩
abbrev S1024000x1 : Shape := ⟨2, ![1024000, 1]⟩
abbrev S1024000x64 : Shape := ⟨2, ![1024000, 64]⟩
abbrev S1024x1000x64 : Shape := ⟨3, ![1024, 1000, 64]⟩
abbrev S1024x1000x1 : Shape := ⟨3, ![1024, 1000, 1]⟩
abbrev S1000 : Shape := ⟨1, ![1000]⟩
abbrev S1024x1000x2 : Shape := ⟨3, ![1024, 1000, 2]⟩
abbrev S1024x10 : Shape := ⟨2, ![1024, 10]⟩
abbrev S1024x10x1 : Shape := ⟨3, ![1024, 10, 1]⟩
abbrev S1 : Shape := ⟨1, ![1]⟩
abbrev S1x1x1 : Shape := ⟨3, ![1, 1, 1]⟩
abbrev S1024x10x64 : Shape := ⟨3, ![1024, 10, 64]⟩
abbrev S1024x10x2 : Shape := ⟨3, ![1024, 10, 2]⟩
abbrev S10 : Shape := ⟨1, ![10]⟩
abbrev S1024x10x3 : Shape := ⟨3, ![1024, 10, 3]⟩
abbrev S1024x5 : Shape := ⟨2, ![1024, 5]⟩
abbrev S1024x5x1 : Shape := ⟨3, ![1024, 5, 1]⟩
abbrev S1024x5x3 : Shape := ⟨3, ![1024, 5, 3]⟩
abbrev S5 : Shape := ⟨1, ![5]⟩
abbrev S1024x5x4 : Shape := ⟨3, ![1024, 5, 4]⟩

abbrev nBuf : Space → Nat
  | .hbm => 162
  | .vmem => 0
  | .smem => 0
  | _ => 0

abbrev hbmTy0_0 (i : Nat) : BufTy := match i % 128 with
  | 0 => ⟨S1024x64, .f32⟩
  | 1 => ⟨S1024x64, .f32⟩
  | 2 => ⟨S64x100000, .f32⟩
  | 3 => ⟨S64x100000, .f32⟩
  | 4 => ⟨S100000x1, .i32⟩
  | 5 => ⟨S1024x100000, .i1⟩
  | 6 => ⟨S100000x64, .f32⟩
  | 7 => ⟨S100000x64, .f32⟩
  | 8 => ⟨S1024x100000, .f32⟩
  | 9 => ⟨S_, .f32⟩
  | 10 => ⟨S_, .f32⟩
  | 11 => ⟨S1024x100000, .f32⟩
  | 12 => ⟨S1024x100000, .f32⟩
  | 13 => ⟨S1024x1000, .f32⟩
  | 14 => ⟨S1024x1000, .i32⟩
  | 15 => ⟨S1024000, .i32⟩
  | 16 => ⟨S_, .i32⟩
  | 17 => ⟨S1024000, .i32⟩
  | 18 => ⟨S1024000, .i1⟩
  | 19 => ⟨S_, .i32⟩
  | 20 => ⟨S1024000, .i32⟩
  | 21 => ⟨S1024000, .i32⟩
  | 22 => ⟨S1024000, .i32⟩
  | 23 => ⟨S1024000x1, .i32⟩
  | 24 => ⟨S1024000x64, .f32⟩
  | 25 => ⟨S1024x1000x64, .f32⟩
  | 26 => ⟨S1024000, .i32⟩
  | 27 => ⟨S_, .i32⟩
  | 28 => ⟨S1024000, .i32⟩
  | 29 => ⟨S1024000, .i1⟩
  | 30 => ⟨S_, .i32⟩
  | 31 => ⟨S1024000, .i32⟩
  | 32 => ⟨S1024000, .i32⟩
  | 33 => ⟨S1024000, .i32⟩
  | 34 => ⟨S1024000x1, .i32⟩
  | 35 => ⟨S1024000x64, .f32⟩
  | 36 => ⟨S1024x1000x64, .f32⟩
  | 37 => ⟨S1024000, .i32⟩
  | 38 => ⟨S_, .i32⟩
  | 39 => ⟨S1024000, .i32⟩
  | 40 => ⟨S1024000, .i1⟩
  | 41 => ⟨S_, .i32⟩
  | 42 => ⟨S1024000, .i32⟩
  | 43 => ⟨S1024000, .i32⟩
  | 44 => ⟨S1024000, .i32⟩
  | 45 => ⟨S1024000x1, .i32⟩
  | 46 => ⟨S1024000x1, .i32⟩
  | 47 => ⟨S1024x1000x1, .i32⟩
  | 48 => ⟨S1000, .i32⟩
  | 49 => ⟨S1024x1000, .i32⟩
  | 50 => ⟨S1024x1000x1, .i32⟩
  | 51 => ⟨S1024x1000x2, .i32⟩
  | 52 => ⟨S1024x1000, .f32⟩
  | 53 => ⟨S1024x10, .f32⟩
  | 54 => ⟨S1024x10, .i32⟩
  | 55 => ⟨S1024x10x1, .i32⟩
  | 56 => ⟨S_, .i32⟩
  | 57 => ⟨S1024x10x1, .i32⟩
  | 58 => ⟨S1024x10x1, .i1⟩
  | 59 => ⟨S_, .i32⟩
  | 60 => ⟨S1024x10x1, .i32⟩
  | 61 => ⟨S1024x10x1, .i32⟩
  | 62 => ⟨S1024x10x1, .i32⟩
  | 63 => ⟨S1, .i32⟩
  | 64 => ⟨S_, .i32⟩
  | 65 => ⟨S1024x10x1, .i32⟩
  | 66 => ⟨S1024x10x1, .i1⟩
  | 67 => ⟨S1x1x1, .i32⟩
  | 68 => ⟨S1024x10x1, .i32⟩
  | 69 => ⟨S1024x10x1, .i1⟩
  | 70 => ⟨S1024x10x1, .i1⟩
  | 71 => ⟨S_, .i1⟩
  | 72 => ⟨S1024x10, .i1⟩
  | 73 => ⟨S1024x10x64, .f32⟩
  | 74 => ⟨S1024x10x64, .i1⟩
  | 75 => ⟨S_, .f32⟩
  | 76 => ⟨S1024x10x64, .f32⟩
  | 77 => ⟨S1024x10x64, .f32⟩
  | 78 => ⟨S1024x10x1, .i32⟩
  | 79 => ⟨S_, .i32⟩
  | 80 => ⟨S1024x10x1, .i32⟩
  | 81 => ⟨S1024x10x1, .i1⟩
  | 82 => ⟨S_, .i32⟩
  | 83 => ⟨S1024x10x1, .i32⟩
  | 84 => ⟨S1024x10x1, .i32⟩
  | 85 => ⟨S1024x10x1, .i32⟩
  | 86 => ⟨S1, .i32⟩
  | 87 => ⟨S_, .i32⟩
  | 88 => ⟨S1024x10x1, .i32⟩
  | 89 => ⟨S1024x10x1, .i1⟩
  | 90 => ⟨S1x1x1, .i32⟩
  | 91 => ⟨S1024x10x1, .i32⟩
  | 92 => ⟨S1024x10x1, .i1⟩
  | 93 => ⟨S1024x10x1, .i1⟩
  | 94 => ⟨S_, .i1⟩
  | 95 => ⟨S1024x10, .i1⟩
  | 96 => ⟨S1024x10x64, .f32⟩
  | 97 => ⟨S1024x10x64, .i1⟩
  | 98 => ⟨S_, .f32⟩
  | 99 => ⟨S1024x10x64, .f32⟩
  | 100 => ⟨S1024x10x64, .f32⟩
  | 101 => ⟨S1024x10x1, .i32⟩
  | 102 => ⟨S_, .i32⟩
  | 103 => ⟨S1024x10x1, .i32⟩
  | 104 => ⟨S1024x10x1, .i1⟩
  | 105 => ⟨S_, .i32⟩
  | 106 => ⟨S1024x10x1, .i32⟩
  | 107 => ⟨S1024x10x1, .i32⟩
  | 108 => ⟨S1024x10x1, .i32⟩
  | 109 => ⟨S1, .i32⟩
  | 110 => ⟨S_, .i32⟩
  | 111 => ⟨S1024x10x1, .i32⟩
  | 112 => ⟨S1024x10x1, .i1⟩
  | 113 => ⟨S1x1x1, .i32⟩
  | 114 => ⟨S1024x10x1, .i32⟩
  | 115 => ⟨S1024x10x1, .i1⟩
  | 116 => ⟨S1024x10x1, .i1⟩
  | 117 => ⟨S_, .i1⟩
  | 118 => ⟨S1024x10, .i1⟩
  | 119 => ⟨S1024x10x2, .i32⟩
  | 120 => ⟨S1024x10x2, .i1⟩
  | 121 => ⟨S_, .i32⟩
  | 122 => ⟨S1024x10x2, .i32⟩
  | 123 => ⟨S1024x10x2, .i32⟩
  | 124 => ⟨S10, .i32⟩
  | 125 => ⟨S1024x10, .i32⟩
  | 126 => ⟨S1024x10x1, .i32⟩
  | 127 => ⟨S1024x10x3, .i32⟩
  | _ => ⟨S1024x64, .f32⟩

abbrev hbmTy0_1 (i : Nat) : BufTy := match i % 128 with
  | 0 => ⟨S1024x10, .f32⟩
  | 1 => ⟨S1024x5, .f32⟩
  | 2 => ⟨S1024x5, .i32⟩
  | 3 => ⟨S1024x5x1, .i32⟩
  | 4 => ⟨S_, .i32⟩
  | 5 => ⟨S1024x5x1, .i32⟩
  | 6 => ⟨S1024x5x1, .i1⟩
  | 7 => ⟨S_, .i32⟩
  | 8 => ⟨S1024x5x1, .i32⟩
  | 9 => ⟨S1024x5x1, .i32⟩
  | 10 => ⟨S1024x5x1, .i32⟩
  | 11 => ⟨S1, .i32⟩
  | 12 => ⟨S_, .i32⟩
  | 13 => ⟨S1024x5x1, .i32⟩
  | 14 => ⟨S1024x5x1, .i1⟩
  | 15 => ⟨S1x1x1, .i32⟩
  | 16 => ⟨S1024x5x1, .i32⟩
  | 17 => ⟨S1024x5x1, .i1⟩
  | 18 => ⟨S1024x5x1, .i1⟩
  | 19 => ⟨S_, .i1⟩
  | 20 => ⟨S1024x5, .i1⟩
  | 21 => ⟨S1024x5x3, .i32⟩
  | 22 => ⟨S1024x5x3, .i1⟩
  | 23 => ⟨S_, .i32⟩
  | 24 => ⟨S1024x5x3, .i32⟩
  | 25 => ⟨S1024x5x3, .i32⟩
  | 26 => ⟨S5, .i32⟩
  | 27 => ⟨S1024x5, .i32⟩
  | 28 => ⟨S1024x5x1, .i32⟩
  | 29 => ⟨S1024x5x4, .i32⟩
  | 30 => ⟨S1024x5x1, .i32⟩
  | 31 => ⟨S1024x5, .i32⟩
  | 32 => ⟨S_, .f32⟩
  | 33 => ⟨S1024x5, .f32⟩
  | _ => ⟨S1024x64, .f32⟩

abbrev hbmTy (i : Nat) : BufTy := match i / 128 with
  | 0 => hbmTy0_0 i
  | 1 => hbmTy0_1 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_values : Ref sig .tc := ⟨.hbm, 13, rfl⟩
abbrev main_indices : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_values_5 : Ref sig .tc := ⟨.hbm, 53, rfl⟩
abbrev main_indices_6 : Ref sig .tc := ⟨.hbm, 54, rfl⟩
abbrev main_v36 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_1 : Ref sig .tc := ⟨.hbm, 63, rfl⟩
abbrev main_call1_c_2 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_c_3 : Ref sig .tc := ⟨.hbm, 71, rfl⟩
abbrev main_call1_v11 : Ref sig .tc := ⟨.hbm, 72, rfl⟩
abbrev main_call1_v12 : Ref sig .tc := ⟨.hbm, 73, rfl⟩
abbrev main_call1_v13 : Ref sig .tc := ⟨.hbm, 74, rfl⟩
abbrev main_call1_cst : Ref sig .tc := ⟨.hbm, 75, rfl⟩
abbrev main_call1_v14 : Ref sig .tc := ⟨.hbm, 76, rfl⟩
abbrev main_v37 : Ref sig .tc := ⟨.hbm, 77, rfl⟩
abbrev main_v38 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_1 : Ref sig .tc := ⟨.hbm, 86, rfl⟩
abbrev main_call2_c_2 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_c_3 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_cst : Ref sig .tc := ⟨.hbm, 98, rfl⟩
abbrev main_call2_v14 : Ref sig .tc := ⟨.hbm, 99, rfl⟩
abbrev main_v39 : Ref sig .tc := ⟨.hbm, 100, rfl⟩
abbrev main_v40 : Ref sig .tc := ⟨.hbm, 101, rfl⟩
abbrev main_call3_c : Ref sig .tc := ⟨.hbm, 102, rfl⟩
abbrev main_call3_v0 : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_c_1 : Ref sig .tc := ⟨.hbm, 109, rfl⟩
abbrev main_call3_c_2 : Ref sig .tc := ⟨.hbm, 110, rfl⟩
abbrev main_call3_v5 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_c_3 : Ref sig .tc := ⟨.hbm, 117, rfl⟩
abbrev main_call3_v11 : Ref sig .tc := ⟨.hbm, 118, rfl⟩
abbrev main_call3_v12 : Ref sig .tc := ⟨.hbm, 119, rfl⟩
abbrev main_call3_v13 : Ref sig .tc := ⟨.hbm, 120, rfl⟩
abbrev main_call3_c_4 : Ref sig .tc := ⟨.hbm, 121, rfl⟩
abbrev main_call3_v14 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_values_7 : Ref sig .tc := ⟨.hbm, 129, rfl⟩
abbrev main_indices_8 : Ref sig .tc := ⟨.hbm, 130, rfl⟩
abbrev main_v47 : Ref sig .tc := ⟨.hbm, 131, rfl⟩
abbrev main_call4_c : Ref sig .tc := ⟨.hbm, 132, rfl⟩
abbrev main_call4_v0 : Ref sig .tc := ⟨.hbm, 133, rfl⟩
abbrev main_call4_v1 : Ref sig .tc := ⟨.hbm, 134, rfl⟩
abbrev main_call4_c_0 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_c_1 : Ref sig .tc := ⟨.hbm, 139, rfl⟩
abbrev main_call4_c_2 : Ref sig .tc := ⟨.hbm, 140, rfl⟩
abbrev main_call4_v5 : Ref sig .tc := ⟨.hbm, 141, rfl⟩
abbrev main_call4_v6 : Ref sig .tc := ⟨.hbm, 142, rfl⟩
abbrev main_call4_v7 : Ref sig .tc := ⟨.hbm, 143, rfl⟩
abbrev main_call4_v8 : Ref sig .tc := ⟨.hbm, 144, rfl⟩
abbrev main_call4_v9 : Ref sig .tc := ⟨.hbm, 145, rfl⟩
abbrev main_call4_v10 : Ref sig .tc := ⟨.hbm, 146, rfl⟩
abbrev main_call4_c_3 : Ref sig .tc := ⟨.hbm, 147, rfl⟩
abbrev main_call4_v11 : Ref sig .tc := ⟨.hbm, 148, rfl⟩
abbrev main_call4_v12 : Ref sig .tc := ⟨.hbm, 149, rfl⟩
abbrev main_call4_v13 : Ref sig .tc := ⟨.hbm, 150, rfl⟩
abbrev main_call4_c_4 : Ref sig .tc := ⟨.hbm, 151, rfl⟩
abbrev main_call4_v14 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_cst_9 : Ref sig .tc := ⟨.hbm, 160, rfl⟩
abbrev main_v55 : Ref sig .tc := ⟨.hbm, 161, rfl⟩

abbrev nD : Nat := 1
abbrev τ : Topo := Topo.v7x

variable {F : FTy → Type} [FloatOps F]
-- ==== Proof.Run.Net.lean ====
/- The compare-exchange network of the two sorting kernels, stage by stage, and the kernels' bodies written over it. The bodies as
   printed are cut into windows of sixty statements, which fall in the middle of the stages; `select_body_eq` and `sort1k_body_eq`
   say that they are the bodies written here, by definitional unfolding. -/
module

public import proofs.«01_k».proof.KernelIdeal
public import proofs.«01_k».proof.Proof.Gen.KernelIdeal.Skeleton
public import Idealize.ShloMosaic.Lib.Tactic

@[expose] public section

set_option maxRecDepth 16384

noncomputable section

namespace Cert.KernelIdeal.Net

open Idealize.ShloMosaic Idealize.ShloMosaic.TcCoe Idealize.ShloMosaic.Tactic
open Idealize.SL Idealize.SL.Sem Cert.KernelIdeal Cert.KernelIdeal.Gen

variable {F : FTy → Type} [FloatOps F]

/-- The sublane and the lane number of each place of a `64 × 8 × 128` array. -/
def sub : IVec S64x8x128 32 := iota .tc S64x8x128 32 [1] iota_S64x8x128_d1_w32
def lane : IVec S64x8x128 32 := iota .tc S64x8x128 32 [2] iota_S64x8x128_d2_w32

/-- A gather's index, brought into the axis of length `n` as a negative index is. -/
def wrap (w : IVec S64x8x128 32) (n : BitVec 32) : IVec S64x8x128 32 :=
  shapeCast S64x8x128 (shapeCast S64x8x128x1
    (select (cmpi .slt w (broadcast S64x8x128 0#32)) (addi w (broadcast S64x8x128 n)) w)
    shapeCasts_S64x8x128_S64x8x128x1) shapeCasts_S64x8x128x1_S64x8x128

/-- The array whose place `p` holds `x`'s entry at the place `p xor v`, a place being `128 * sublane + lane`. -/
def xg {α : Type} (v : ℕ) (x : S64x8x128.Idx → α) : S64x8x128.Idx → α :=
  if v < 128 then dynamicGather 2 x (wrap (xori lane (broadcast S64x8x128 (BitVec.ofNat 32 v))) 128#32)
  else dynamicGather 1 x (wrap (xori sub (broadcast S64x8x128 (BitVec.ofNat 32 (v / 128)))) 8#32)

/-- Whether bit `v` of a place's number is clear. -/
def clear (v : ℕ) : IVec S64x8x128 1 :=
  xori (cmpi .ne (if v < 128 then andi lane (broadcast S64x8x128 (BitVec.ofNat 32 v))
    else andi sub (broadcast S64x8x128 (BitVec.ofNat 32 (v / 128)))) (broadcast S64x8x128 0#32)) (constantI S64x8x128 1 1#1)

/-- Whether the first pair comes before the second: its value is larger, or equal with the smaller index. -/
def wins (x : FVec F S64x8x128 .f32) (n : IVec S64x8x128 32) (y : FVec F S64x8x128 .f32) (m : IVec S64x8x128 32) : IVec S64x8x128 1 :=
  ori (cmpf .ogt x y) (andi (cmpf .oeq x y) (cmpi .slt n m))

/-- Values with their indices. -/
structure Pairs (F : FTy → Type) where
  v : FVec F S64x8x128 .f32
  i : IVec S64x8x128 32

/-- One stage: each place keeps its pair or takes that of its partner at distance `j`. -/
def stage (j k : ℕ) (s : Pairs F) : Pairs F :=
  let c := xori (xori (xori (xori (clear k) (clear j)) (constantI S64x8x128 1 1#1)) (wins s.v s.i (xg j s.v) (xg j s.i)))
    (constantI S64x8x128 1 1#1)
  ⟨select c s.v (xg j s.v), select c s.i (xg j s.i)⟩

/-- A run of stages, in order. -/
def stages : List (ℕ × ℕ) → Pairs F → Pairs F
  | [], s => s
  | p :: l, s => stages l (stage p.1 p.2 s)

/-- The stages of the whole sort, and of the merge of a bitonic sequence. -/
def mergeL : List (ℕ × ℕ) := [(512, 1024), (256, 1024), (128, 1024), (64, 1024), (32, 1024), (16, 1024), (8, 1024), (4, 1024), (2, 1024), (1, 1024)]
def sortL : List (ℕ × ℕ) :=
  [(1, 2), (2, 4), (1, 4), (4, 8), (2, 8), (1, 8), (8, 16), (4, 16), (2, 16), (1, 16),
   (16, 32), (8, 32), (4, 32), (2, 32), (1, 32), (32, 64), (16, 64), (8, 64), (4, 64), (2, 64), (1, 64),
   (64, 128), (32, 128), (16, 128), (8, 128), (4, 128), (2, 128), (1, 128),
   (128, 256), (64, 256), (32, 256), (16, 256), (8, 256), (4, 256), (2, 256), (1, 256),
   (256, 512), (128, 512), (64, 512), (32, 512), (16, 512), (8, 512), (4, 512), (2, 512), (1, 512),
   (512, 1024), (256, 1024), (128, 1024), (64, 1024), (32, 1024), (16, 1024), (8, 1024), (4, 1024), (2, 1024), (1, 1024)]

/-- A chunk's values beside the indices of its entries. -/
def chunk (c : BitVec 32) (x : FVec F S64x1024 .f32) : Pairs F :=
  ⟨shapeCast S64x8x128 (shapeCast S64x1024 x shapeCasts_S64x1024_S64x1024) shapeCasts_S64x1024_S64x8x128,
   addi (addi (broadcast S64x8x128 (Scalar.muli c 1024#32)) (muli sub (broadcast S64x8x128 128#32))) lane⟩

/-- The running list `l` against the sorted chunk `s` read backwards: the better of the two at each place. -/
def better (l s : Pairs F) : Pairs F :=
  ⟨select (wins l.v l.i (xg 896 (xg 127 s.v)) (xg 896 (xg 127 s.i))) l.v (xg 896 (xg 127 s.v)),
   select (wins l.v l.i (xg 896 (xg 127 s.v)) (xg 896 (xg 127 s.i))) l.i (xg 896 (xg 127 s.i))⟩

/-- What the running list becomes at a grid point. -/
def step (c : BitVec 32) (x : FVec F S64x1024 .f32) (l : Pairs F) : Pairs F :=
  stages mergeL (better l (stages sortL (chunk c x)))

/-- The rectangles of the accesses: whole arrays. -/
abbrev rL : Rect S64x8x128 := Rect.unit (s := S64x8x128) ![0, 0, 0] S64x8x128.size inb_S64x8x128_S64x8x128_0_0_0
abbrev rB : Rect S64x1024 := Rect.unit (s := S64x1024) ![0, 0] S64x1024.size inb_S64x1024_S64x1024_0_0

/-- The selection kernel's body over the network. -/
def selBody (i : grid1.Coords) (arg2 : Memref sig .tc .vmem S64x1024 .f32) (harg2 : arg2.IsWhole) (arg3 : Memref sig .tc .vmem S64x1024 .i32) (harg3 : arg3.IsWhole) (arg4 : Memref sig .tc .vmem S64x8x128 .f32) (harg4 : arg4.IsWhole) (arg5 : Memref sig .tc .vmem S64x8x128 .i32) (harg5 : arg5.IsWhole) :
    Prog (TpuEff nD τ sig (Elt F) Λ₀ .tc) PUnit := do
  if h : Scalar.cmpi .ne (Scalar.extui (Scalar.cmpi .eq (BitVec.ofNat 32 (i 1).val) 0#32) : BitVec 32) 0#32 = 1#1 then do
    let _ ← Prog.lift (.load arg4 rL.toLoadRect (View.loadsAt_vmem h_S64x8x128))
    Prog.lift (.store arg4 rL (k1_pay6 (F := F)) Finset.univ (View.stores_vmem_bits_univ h_S64x8x128 rfl) (.inl rfl))
    let _ ← Prog.lift (.load arg5 rL.toLoadRect (View.loadsAt_vmem h_S64x8x128))
    Prog.lift (.store arg5 rL k1_pay7 Finset.univ (View.stores_vmem_bits_univ h_S64x8x128 rfl) (.inl rfl))
    pure ⟨⟩
  else do
    pure ⟨⟩
  let x : Vec F S64x1024 .f32 ← Prog.lift (.load arg2 rB.toLoadRect (View.loadsAt_vmem h_S64x1024))
  let lv : Vec F S64x8x128 .f32 ← Prog.lift (.load arg4 rL.toLoadRect (View.loadsAt_vmem h_S64x8x128))
  let li : Vec F S64x8x128 .i32 ← Prog.lift (.load arg5 rL.toLoadRect (View.loadsAt_vmem h_S64x8x128))
  let _ ← Prog.lift (.load arg4 rL.toLoadRect (View.loadsAt_vmem h_S64x8x128))
  Prog.lift (.store arg4 rL (shapeCast S64x8x128 (step (BitVec.ofNat 32 (i 1).val) x ⟨lv, li⟩).v shapeCasts_S64x8x128_S64x8x128) Finset.univ (View.stores_vmem_bits_univ h_S64x8x128 rfl) (.inl rfl))
  let _ ← Prog.lift (.load arg5 rL.toLoadRect (View.loadsAt_vmem h_S64x8x128))
  Prog.lift (.store arg5 rL (shapeCast S64x8x128 (step (BitVec.ofNat 32 (i 1).val) x ⟨lv, li⟩).i shapeCasts_S64x8x128_S64x8x128) Finset.univ (View.stores_vmem_bits_univ h_S64x8x128 rfl) (.inl rfl))
  if h : k1_cond2 i = 1#1 then do
    let _ ← Prog.lift (.load arg3 rB.toLoadRect (View.loadsAt_vmem h_S64x1024))
    Prog.lift (.store arg3 rB (shapeCast S64x1024 (step (BitVec.ofNat 32 (i 1).val) x ⟨lv, li⟩).i shapeCasts_S64x8x128_S64x1024) Finset.univ (View.stores_vmem_bits_univ h_S64x1024 rfl) (.inl rfl))
    pure ⟨⟩
  else do
    pure ⟨⟩
  pure ⟨⟩

/-- The second sort's body over the network. -/
def sortBody (i : grid2.Coords) (arg1 : Memref sig .tc .vmem S64x1024 .f32) (harg1 : arg1.IsWhole) (arg2 : Memref sig .tc .vmem S64x1024 .i32) (harg2 : arg2.IsWhole) :
    Prog (TpuEff nD τ sig (Elt F) Λ₀ .tc) PUnit := do
  let x : Vec F S64x1024 .f32 ← Prog.lift (.load arg1 rB.toLoadRect (View.loadsAt_vmem h_S64x1024))
  let _ ← Prog.lift (.load arg2 rB.toLoadRect (View.loadsAt_vmem h_S64x1024))
  Prog.lift (.store arg2 rB (shapeCast S64x1024 (stages sortL ⟨shapeCast S64x8x128 (shapeCast S64x1024 x shapeCasts_S64x1024_S64x1024) shapeCasts_S64x1024_S64x8x128,
    addi (muli sub (broadcast S64x8x128 128#32)) lane⟩).i shapeCasts_S64x8x128_S64x1024) Finset.univ (View.stores_vmem_bits_univ h_S64x1024 rfl) (.inl rfl))
  pure ⟨⟩

theorem sort_body_eq : cc2__sort1k_body (F := F) = sortBody (F := F) := by sl_kernel_rfl

/-- Whether a grid point is the first of its row of chunks. -/
abbrev isFirst (i : grid1.Coords) : Prop := Scalar.cmpi .ne (Scalar.extui (Scalar.cmpi .eq (BitVec.ofNat 32 (i 1).val) 0#32) : BitVec 32) 0#32 = 1#1

/-- The first window after the initialisation. -/
def part1Rest (i : grid1.Coords) (arg2 : Memref sig .tc .vmem S64x1024 .f32) (harg2 : arg2.IsWhole) (arg3 : Memref sig .tc .vmem S64x1024 .i32) (harg3 : arg3.IsWhole) (arg4 : Memref sig .tc .vmem S64x8x128 .f32) (harg4 : arg4.IsWhole) (arg5 : Memref sig .tc .vmem S64x8x128 .i32) (harg5 : arg5.IsWhole) := do
  let x : Vec F S64x1024 .f32 ← (Prog.lift (.load arg2 rB.toLoadRect (View.loadsAt_vmem h_S64x1024)) : Prog (TpuEff nD τ sig (Elt F) Λ₀ .tc) _)
  (pure ⟨BitVec.ofNat 32 (i 1).val, k1_pay8 x, k1_pay9 i, k1_pay10 x, k1_pay11 i, k1_pay12 i x, k1_pay13⟩ : Prog (TpuEff nD τ sig (Elt F) Λ₀ .tc) (Σ' (arg1 : BitVec 32) (v5 : FVec F S64x8x128 .f32) (v13 : IVec S64x8x128 32) (v24 : FVec F S64x8x128 .f32) (v35 : IVec S64x8x128 32) (v40 : IVec S64x8x128 1), IVec S64x8x128 32))

theorem part1_first (i : grid1.Coords) (arg2 : Memref sig .tc .vmem S64x1024 .f32) (harg2 : arg2.IsWhole) (arg3 : Memref sig .tc .vmem S64x1024 .i32) (harg3 : arg3.IsWhole) (arg4 : Memref sig .tc .vmem S64x8x128 .f32) (harg4 : arg4.IsWhole) (arg5 : Memref sig .tc .vmem S64x8x128 .i32) (harg5 : arg5.IsWhole) (h : isFirst i) :
    k1_part1 (F := F) i arg2 harg2 arg3 harg3 arg4 harg4 arg5 harg5 = (do
      let _ ← Prog.lift (.load arg4 rL.toLoadRect (View.loadsAt_vmem h_S64x8x128))
      Prog.lift (.store arg4 rL (k1_pay6 (F := F)) Finset.univ (View.stores_vmem_bits_univ h_S64x8x128 rfl) (.inl rfl))
      let _ ← Prog.lift (.load arg5 rL.toLoadRect (View.loadsAt_vmem h_S64x8x128))
      Prog.lift (.store arg5 rL k1_pay7 Finset.univ (View.stores_vmem_bits_univ h_S64x8x128 rfl) (.inl rfl))
      part1Rest i arg2 harg2 arg3 harg3 arg4 harg4 arg5 harg5) := by
  rw [k1_part1_eq_skeleton]
  exact dif_pos h

theorem part1_next (i : grid1.Coords) (arg2 : Memref sig .tc .vmem S64x1024 .f32) (harg2 : arg2.IsWhole) (arg3 : Memref sig .tc .vmem S64x1024 .i32) (harg3 : arg3.IsWhole) (arg4 : Memref sig .tc .vmem S64x8x128 .f32) (harg4 : arg4.IsWhole) (arg5 : Memref sig .tc .vmem S64x8x128 .i32) (harg5 : arg5.IsWhole) (h : ¬ isFirst i) :
    k1_part1 (F := F) i arg2 harg2 arg3 harg3 arg4 harg4 arg5 harg5 = part1Rest i arg2 harg2 arg3 harg3 arg4 harg4 arg5 harg5 := by
  rw [k1_part1_eq_skeleton]
  exact dif_neg h

theorem select_body_eq (i : grid1.Coords) (arg2 : Memref sig .tc .vmem S64x1024 .f32) (harg2 : arg2.IsWhole) (arg3 : Memref sig .tc .vmem S64x1024 .i32) (harg3 : arg3.IsWhole) (arg4 : Memref sig .tc .vmem S64x8x128 .f32) (harg4 : arg4.IsWhole) (arg5 : Memref sig .tc .vmem S64x8x128 .i32) (harg5 : arg5.IsWhole) :
    cc1__select_body (F := F) i arg2 harg2 arg3 harg3 arg4 harg4 arg5 harg5 = selBody (F := F) i arg2 harg2 arg3 harg3 arg4 harg4 arg5 harg5 := by
  unfold cc1__select_body k1_part66
  by_cases h : isFirst i
  · rw [part1_first i arg2 harg2 arg3 harg3 arg4 harg4 arg5 harg5 h]
    refine Eq.trans ?_ (dif_pos h).symm
    sl_kernel_rfl
  · rw [part1_next i arg2 harg2 arg3 harg3 arg4 harg4 arg5 harg5 h]
    refine Eq.trans ?_ (dif_neg h).symm
    sl_kernel_rfl

end Cert.KernelIdeal.Net
-- ==== Proof.Run.Body.lean ====
/- What the bodies of the two sorting kernels do to the buffers they are handed. -/
module

public import proofs.«01_k».proof.Proof.Run.Net
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The running list as the first chunk of a row finds it. -/
def start : Pairs F := ⟨k1_pay6, k1_pay7⟩

/-- The second sort's indices. -/
def sorted (x : FVec F S64x1024 .f32) : IVec S64x1024 32 :=
  shapeCast S64x1024 (stages sortL ⟨shapeCast S64x8x128 (shapeCast S64x1024 x shapeCasts_S64x1024_S64x1024) shapeCasts_S64x1024_S64x8x128,
    addi (muli sub (broadcast S64x8x128 128#32)) lane⟩).i shapeCasts_S64x8x128_S64x1024

attribute [local irreducible] step stages

theorem sound_sort (c : Dev nD) (E : Set ℕ) (i : grid2.Coords) (arg1 : Memref sig .tc .vmem S64x1024 .f32) (harg1 : arg1.IsWhole) (arg2 : Memref sig .tc .vmem S64x1024 .i32) (harg2 : arg2.IsWhole)
    (x0 : Vec F S64x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (sorted x0)) -∗ K ⟨⟩))
      ⊢ wp frame (wpE (defs₀ (F := F)) Variants.none c none) E (cc2__sort1k_body i arg1 harg1 arg2 harg2) K := by
  rw [sort_body_eq]; unfold sortBody
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_full, View.readAt_full]
  rfl

/-- At the first chunk of a row the list is started afresh. -/
theorem sound_first (c : Dev nD) (E : Set ℕ) (i : grid1.Coords) (arg2 : Memref sig .tc .vmem S64x1024 .f32) (harg2 : arg2.IsWhole) (arg3 : Memref sig .tc .vmem S64x1024 .i32) (harg3 : arg3.IsWhole) (arg4 : Memref sig .tc .vmem S64x8x128 .f32) (harg4 : arg4.IsWhole) (arg5 : Memref sig .tc .vmem S64x8x128 .i32) (harg5 : arg5.IsWhole)
    (x0 : Vec F S64x1024 .f32) (y : Vec F S64x1024 .i32) (l : Pairs F) (h0 : isFirst i) (h1 : ¬ k1_cond2 i = 1#1) (K : PUnit → sProp 𝕄) :
    iprop(owns (c : Thread nD τ) arg2 fullShare x0 ∗ owns (c : Thread nD τ) arg3 fullShare y
        ∗ owns (c : Thread nD τ) arg4 fullShare l.v ∗ owns (c : Thread nD τ) arg5 fullShare l.i
        ∗ (iprop(owns (c : Thread nD τ) arg2 fullShare x0 ∗ owns (c : Thread nD τ) arg3 fullShare y
            ∗ owns (c : Thread nD τ) arg4 fullShare (step (BitVec.ofNat 32 (i 1).val) x0 start).v
            ∗ owns (c : Thread nD τ) arg5 fullShare (step (BitVec.ofNat 32 (i 1).val) x0 start).i) -∗ K ⟨⟩))
      ⊢ wp frame (wpE (defs₀ (F := F)) Variants.none c none) E (cc1__select_body i arg2 harg2 arg3 harg3 arg4 harg4 arg5 harg5) K := by
  rw [select_body_eq]; unfold selBody
  unfold owns
  iintro ⟨⟨%f0, %hf0, H0⟩, ⟨%f1, %hf1, H1⟩, ⟨%f2, %hf2, H2⟩, ⟨%f3, %hf3, H3⟩, Hk⟩
  subst hf0
  sl_exec (disch := first | sl_exact h0 | sl_exact h1)
  sl_step
  iapply Hk
  isplitl [H0]
  · iexists f0; isplitr; · ipureintro; rfl
    iexact H0
  isplitl [H1]
  · iexists f1; isplitr; · ipureintro; exact hf1
    iexact H1
  isplitl [H2]
  · iexists _; isplitr
    swap; · iexact H2
    ipureintro
    unfold sound_first.sl.lv sound_first.sl.li sound_first.sl.H2_1 sound_first.sl.H3_1
    rw [View.read_writes_full, shapeCast_self, View.readCov_full, View.readCov_full, View.readAt_full]
    rfl
  iexists _; isplitr
  swap; · iexact H3
  · ipureintro
    unfold sound_first.sl.lv sound_first.sl.li sound_first.sl.H2_1 sound_first.sl.H3_1
    rw [View.read_writes_full, shapeCast_self, View.readCov_full, View.readCov_full, View.readAt_full]
    rfl

/-- Between the first and the last chunk the list goes on. -/
theorem sound_mid (c : Dev nD) (E : Set ℕ) (i : grid1.Coords) (arg2 : Memref sig .tc .vmem S64x1024 .f32) (harg2 : arg2.IsWhole) (arg3 : Memref sig .tc .vmem S64x1024 .i32) (harg3 : arg3.IsWhole) (arg4 : Memref sig .tc .vmem S64x8x128 .f32) (harg4 : arg4.IsWhole) (arg5 : Memref sig .tc .vmem S64x8x128 .i32) (harg5 : arg5.IsWhole)
    (x0 : Vec F S64x1024 .f32) (y : Vec F S64x1024 .i32) (l : Pairs F) (h0 : ¬ isFirst i) (h1 : ¬ k1_cond2 i = 1#1) (K : PUnit → sProp 𝕄) :
    iprop(owns (c : Thread nD τ) arg2 fullShare x0 ∗ owns (c : Thread nD τ) arg3 fullShare y
        ∗ owns (c : Thread nD τ) arg4 fullShare l.v ∗ owns (c : Thread nD τ) arg5 fullShare l.i
        ∗ (iprop(owns (c : Thread nD τ) arg2 fullShare x0 ∗ owns (c : Thread nD τ) arg3 fullShare y
            ∗ owns (c : Thread nD τ) arg4 fullShare (step (BitVec.ofNat 32 (i 1).val) x0 l).v
            ∗ owns (c : Thread nD τ) arg5 fullShare (step (BitVec.ofNat 32 (i 1).val) x0 l).i) -∗ K ⟨⟩))
      ⊢ wp frame (wpE (defs₀ (F := F)) Variants.none c none) E (cc1__select_body i arg2 harg2 arg3 harg3 arg4 harg4 arg5 harg5) K := by
  rw [select_body_eq]; unfold selBody
  unfold owns
  iintro ⟨⟨%f0, %hf0, H0⟩, ⟨%f1, %hf1, H1⟩, ⟨%f2, %hf2, H2⟩, ⟨%f3, %hf3, H3⟩, Hk⟩
  subst hf0
  sl_exec (disch := first | sl_exact h0 | sl_exact h1)
  sl_step
  iapply Hk
  isplitl [H0]
  · iexists f0; isplitr; · ipureintro; rfl
    iexact H0
  isplitl [H1]
  · iexists f1; isplitr; · ipureintro; exact hf1
    iexact H1
  isplitl [H2]
  · iexists _; isplitr
    swap; · iexact H2
    ipureintro
    rw [View.read_writes_full, shapeCast_self, View.readAt_full, View.readAt_full, View.readAt_full, hf2, hf3]
  iexists _; isplitr
  swap; · iexact H3
  · ipureintro
    rw [View.read_writes_full, shapeCast_self, View.readAt_full, View.readAt_full, View.readAt_full, hf2, hf3]

/-- At the last chunk of a row the list's indices are emitted. -/
theorem sound_last (c : Dev nD) (E : Set ℕ) (i : grid1.Coords) (arg2 : Memref sig .tc .vmem S64x1024 .f32) (harg2 : arg2.IsWhole) (arg3 : Memref sig .tc .vmem S64x1024 .i32) (harg3 : arg3.IsWhole) (arg4 : Memref sig .tc .vmem S64x8x128 .f32) (harg4 : arg4.IsWhole) (arg5 : Memref sig .tc .vmem S64x8x128 .i32) (harg5 : arg5.IsWhole)
    (x0 : Vec F S64x1024 .f32) (y : Vec F S64x1024 .i32) (l : Pairs F) (h0 : ¬ isFirst i) (h1 : k1_cond2 i = 1#1) (K : PUnit → sProp 𝕄) :
    iprop(owns (c : Thread nD τ) arg2 fullShare x0 ∗ owns (c : Thread nD τ) arg3 fullShare y
        ∗ owns (c : Thread nD τ) arg4 fullShare l.v ∗ owns (c : Thread nD τ) arg5 fullShare l.i
        ∗ (iprop(owns (c : Thread nD τ) arg2 fullShare x0 ∗ owns (c : Thread nD τ) arg3 fullShare (shapeCast S64x1024 (step (BitVec.ofNat 32 (i 1).val) x0 l).i shapeCasts_S64x8x128_S64x1024)
            ∗ owns (c : Thread nD τ) arg4 fullShare (step (BitVec.ofNat 32 (i 1).val) x0 l).v
            ∗ owns (c : Thread nD τ) arg5 fullShare (step (BitVec.ofNat 32 (i 1).val) x0 l).i) -∗ K ⟨⟩))
      ⊢ wp frame (wpE (defs₀ (F := F)) Variants.none c none) E (cc1__select_body i arg2 harg2 arg3 harg3 arg4 harg4 arg5 harg5) K := by
  rw [select_body_eq]; unfold selBody
  unfold owns
  iintro ⟨⟨%f0, %hf0, H0⟩, ⟨%f1, %hf1, H1⟩, ⟨%f2, %hf2, H2⟩, ⟨%f3, %hf3, H3⟩, Hk⟩
  subst hf0
  sl_exec (disch := first | sl_exact h0 | sl_exact h1)
  sl_step
  iapply Hk
  isplitl [H0]
  · iexists f0; isplitr; · ipureintro; rfl
    iexact H0
  isplitl [H1]
  · iexists _; isplitr
    swap; · iexact H1
    ipureintro
    rw [View.read_writes_full, View.readAt_full, View.readAt_full, View.readAt_full, hf2, hf3]
  isplitl [H2]
  · iexists _; isplitr
    swap; · iexact H2
    ipureintro
    rw [View.read_writes_full, shapeCast_self, View.readAt_full, View.readAt_full, View.readAt_full, hf2, hf3]
  iexists _; isplitr
  swap; · iexact H3
  · ipureintro
    rw [View.read_writes_full, shapeCast_self, View.readAt_full, View.readAt_full, View.readAt_full, hf2, hf3]

end Cert.KernelIdeal.Net
-- ==== Proof.Run.Regions.lean ====
/- The three pipelines of the kernel: what each leaves in its windows, point by point. -/
module

public import proofs.«01_k».proof.Proof.Run.Body
public import Idealize.ShloMosaic.Lib.Pipeline.RegionsLoop
public import Idealize.ShloMosaic.Lib.Pipeline.FrameSuffix

@[expose] public section

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The two similarity blocks of a point. -/
def out0_4 (i : grid0.Coords) (x0 : Vec F S1024x64 .f32) (x2 : Vec F S64x512 .f32) : Vec F S1024x512 .f32 := k0_pay2 i x0 x2
def out0_5 (i : grid0.Coords) (x1 : Vec F S1024x64 .f32) (x3 : Vec F S64x512 .f32) : Vec F S1024x512 .f32 := k0_pay3 i x1 x3

set_option maxHeartbeats 1000000 in
theorem sound_kernel0 (c : Dev nD) (E : Set ℕ) (i : grid0.Coords) (arg1 : Memref sig .tc .vmem S1024x64 .f32) (harg1 : arg1.IsWhole) (arg2 : Memref sig .tc .vmem S1024x64 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole)
    (x0 : Vec F S1024x64 .f32) (x1 : Vec F S1024x64 .f32) (x2 : Vec F S64x512 .f32) (x3 : Vec F S64x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 i x0 x2) ∗ owns (c : Thread nD τ) arg6 fullShare (out0_5 i x1 x3)) -∗ K ⟨⟩))
      ⊢ wp frame (wpE (defs₀ (F := F)) Variants.none c none) E (cc0__sim_body i arg1 harg1 arg2 harg2 arg3 harg3 arg4 harg4 arg5 harg5 arg6 harg6) K := by
  simp only [cc0__sim_body_eq_skeleton]; unfold cc0__sim_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_full, View.readAt_full, View.readAt_full]; rfl
  iexists _; isplitr
  swap; · iexact H5
  ipureintro
  rw [View.read_writes_full, View.readAt_full, View.readAt_full]; rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (grid0.coords t) (iblk0 V c 0 t) (iblk0 V c 2 t)
    | ⟨5, _⟩ => out0_5 (grid0.coords t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (grid0.coords t) (iblk0 V c 0 t) (iblk0 V c 2 t) := by dsimp only [dat0]
theorem after0_5 (c : Dev nD) (t : Fin cfg0.N) : (dat0 V c).after 5 t = out0_5 (grid0.coords t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S64x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1024 .i32 := win1_1.stage (cfg1.slots t 1)
abbrev hs1_1 (t : Fin cfg1.N) : (ms1_1 t).IsWhole := hstage1_1 ((cfg1.slots t 1).cast nbuf1_1)
abbrev scM1_0 : Memref sig .tc .vmem S64x8x128 .f32 := Memref.whole cc1_scratch0
abbrev scM1_1 : Memref sig .tc .vmem S64x8x128 .i32 := Memref.whole cc1_scratch1

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f)) ∗ (∃ r, prngReg c r)) := by
  unfold Pipeline.ΦA; rw [scopedRest1_eq]; simp only [scM1_0, scM1_1, owns_whole]; try rfl

/-- A list is begun at the points divisible by 98, -/
theorem isFirst_iff : ∀ t : Fin cfg1.N, isFirst (grid1.coords t) ↔ t.val % 98 = 0 :=
  (fun t => by
    have ht : t.val < 1568 := Nat.lt_of_lt_of_eq t.isLt N_1
    have e0 : (grid1.coords t 0).val = t.val / 98 % 16 := Pipeline.Grid.coords_val t 0 (by decide) rfl
    have e1 : (grid1.coords t 1).val = t.val / 1 % 98 := Pipeline.Grid.coords_val t 1 (by decide) rfl
    simp only [isFirst, e0, e1]
    word_cmp
   : ∀ t : Fin grid1.N, isFirst (grid1.coords t) ↔ t.val % 98 = 0)

/-- and given out at the points before those. -/
theorem isLast_iff : ∀ t : Fin cfg1.N, k1_cond2 (grid1.coords t) = 1#1 ↔ t.val % 98 = 97 :=
  (fun t => by
    have ht : t.val < 1568 := Nat.lt_of_lt_of_eq t.isLt N_1
    have e0 : (grid1.coords t 0).val = t.val / 98 % 16 := Pipeline.Grid.coords_val t 0 (by decide) rfl
    have e1 : (grid1.coords t 1).val = t.val / 1 % 98 := Pipeline.Grid.coords_val t 1 (by decide) rfl
    simp only [k1_cond2, e0, e1]
    word_cmp
   : ∀ t : Fin grid1.N, k1_cond2 (grid1.coords t) = 1#1 ↔ t.val % 98 = 97)

/-- The running list before point `n`. -/
def runAt (c : Dev nD) : ℕ → Pairs F
  | 0 => start
  | n + 1 => if h : n < cfg1.N then
      step (BitVec.ofNat 32 (grid1.coords ⟨n, h⟩ 1).val) (iblk1 V c 0 ⟨n, h⟩) (if n % 98 = 0 then start else runAt c n)
    else start

theorem runAt_succ (c : Dev nD) (t : Fin cfg1.N) :
    runAt V c (t.val + 1) = step (BitVec.ofNat 32 (grid1.coords t 1).val) (iblk1 V c 0 t) (if t.val % 98 = 0 then start else runAt V c t.val) := by
  rw [runAt]; exact dif_pos t.isLt

/-- The indices handed out after point `t`. -/
def taken (c : Dev nD) (t : Fin cfg1.N) : Vec F S64x1024 .i32 :=
  shapeCast S64x1024 (runAt V c (t.val + 1)).i shapeCasts_S64x8x128_S64x1024

/-- The buffers the selection does not touch. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ r, prngReg c r))

/-- What holds between the points: the other buffers at anything, the list at what it has come to. -/
def inv1 (c : Dev nD) (n : ℕ) : sProp 𝕄 :=
  iprop(others1 c ∗ ∃ l : Pairs F, ⌜n % 98 ≠ 0 → l = runAt V c n⌝ ∗ owns (c : Thread nD τ) scM1_0 fullShare l.v ∗ owns (c : Thread nD τ) scM1_1 fullShare l.i)

theorem inv1_in (c : Dev nD) : (Pipeline.ΦA spec1 c : sProp 𝕄) ⊢ inv1 V c 0 := by
  rw [PhiA1_eq]; unfold inv1
  iintro ⟨⟨HR0, HR1, HR2, HR3, HR4, HR5, HR6, HR7, HR8, HR9, ⟨%dv, HS0⟩, ⟨%di, HS1⟩, HR10, HR11, HR12, HR13⟩, Hg⟩
  isplitr [HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    iexact Hg
  iexists ⟨dv, di⟩
  isplitr; · ipureintro; exact fun h => absurd rfl h
  isplitl [HS0]; · iexact HS0
  iexact HS1

theorem inv1_out (c : Dev nD) (n : ℕ) : inv1 V c n ⊢ (Pipeline.ΦA spec1 c : sProp 𝕄) := by
  rw [PhiA1_eq]; unfold inv1
  iintro ⟨⟨HR0, HR1, HR2, HR3, HR4, HR5, HR6, HR7, HR8, HR9, HR10, HR11, HR12, HR13, Hg⟩, %l, -, HS0, HS1⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HS0]; · iexists _; iexact HS0
    isplitl [HS1]; · iexists _; iexact HS1
    isplitl [HR10]; · iexact HR10
    isplitl [HR11]; · iexact HR11
    isplitl [HR12]; · iexact HR12
    iexact HR13
  iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => taken V c t
  Φ t := inv1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = taken V c t := by dsimp only [dat1]
theorem before1_0 (c : Dev nD) (t : Fin cfg1.N) (d) : (dat1 V c).before 0 t d = iblk1 V c 0 t :=
  before1_0_of V (dat1 V c) (A_eq1 V c 0) (after1_0 V c) t d
theorem inv1_castSucc (c : Dev nD) (t : Fin cfg1.N) : (dat1 V c).Φ t.castSucc = inv1 V c t.val := by
  dsimp only [dat1]; exact Pipeline.Dat.Φ_castSucc (fun n _ => inv1 V c n) t

/-- The list is handed out exactly where the window is not idle. -/
theorem leaves1_mid (c : Dev nD) (t : Fin cfg1.N) (h : ¬ k1_cond2 (grid1.coords t) = 1#1) :
    (dat1 V c).leavesExact 1 t = iprop(∃ d, owns (c : Thread nD τ) (ms1_1 t) fullShare ((dat1 V c).before 1 t d)) := by
  refine (dat1 V c).leavesExact_idle 1 t ?_ ?_
  · show (!(k1_cond2 (grid1.coords t) == 1#1)) = true
    simpa using h
  · exact Bool.eq_false_iff.mpr fun hf => h ((isLast_iff t).mpr ((flush1_1 t).mp hf))
theorem leaves1_last (c : Dev nD) (t : Fin cfg1.N) (h : k1_cond2 (grid1.coords t) = 1#1) :
    (dat1 V c).leavesExact 1 t = owns (c : Thread nD τ) (ms1_1 t) fullShare (taken V c t) := by
  unfold Dat.leavesExact
  rw [show cfg1.idle 1 (cfg1.grid.coords t) = false from by
    show (!(k1_cond2 (grid1.coords t) == 1#1)) = false
    simpa using h, after1_1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ (dat1 V c).leavesExact 1 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl, after1_0, inv1_castSucc,
    show (dat1 V c).Φ t.succ = inv1 V c (t.val + 1) from rfl]
  unfold inv1
  iintro ⟨⟨HR, %l, %hl, HS0, HS1⟩, Ho, ⟨%d0, H0⟩, ⟨%d1, H1⟩⟩
  by_cases h0 : t.val % 98 = 0
  · have h1 : ¬ k1_cond2 (grid1.coords t) = 1#1 := fun h => by have := (isLast_iff t).mp h; omega
    rw [leaves1_mid V c t h1]
    iapply (sound_first c Set.univ (grid1.coords t) _ _ _ _ _ _ _ _ (iblk1 V c 0 t) _ l ((isFirst_iff t).mpr h0) h1 _)
    isplitl [H0]; · iexact H0
    isplitl [H1]; · iexact H1
    isplitl [HS0]; · iexact HS0
    isplitl [HS1]; · iexact HS1
    iintro ⟨H0, H1, HS0, HS1⟩
    isplitl [HR HS0 HS1]
    · isplitl [HR]; · iexact HR
      iexists (step (BitVec.ofNat 32 (grid1.coords t 1).val) (iblk1 V c 0 t) start)
      isplitr; · ipureintro; intro _; rw [runAt_succ, if_pos h0]
      isplitl [HS0]; · iexact HS0
      iexact HS1
    isplitl [Ho]; · iexact Ho
    isplitl [H0]; · iexact H0
    iexists d1; iexact H1
  · have hf : ¬ isFirst (grid1.coords t) := fun h => h0 ((isFirst_iff t).mp h)
    obtain rfl := hl h0
    by_cases h1 : k1_cond2 (grid1.coords t) = 1#1
    · rw [leaves1_last V c t h1]
      iapply (sound_last c Set.univ (grid1.coords t) _ _ _ _ _ _ _ _ (iblk1 V c 0 t) _ (runAt V c t.val) hf h1 _)
      isplitl [H0]; · iexact H0
      isplitl [H1]; · iexact H1
      isplitl [HS0]; · iexact HS0
      isplitl [HS1]; · iexact HS1
      unfold taken
      rw [runAt_succ, if_neg h0]
      iintro ⟨H0, H1, HS0, HS1⟩
      isplitl [HR HS0 HS1]
      · isplitl [HR]; · iexact HR
        iexists (step (BitVec.ofNat 32 (grid1.coords t 1).val) (iblk1 V c 0 t) (runAt V c t.val))
        isplitr; · ipureintro; intro _; rfl
        isplitl [HS0]; · iexact HS0
        iexact HS1
      isplitl [Ho]; · iexact Ho
      isplitl [H0]; · iexact H0
      iexact H1
    · rw [leaves1_mid V c t h1]
      iapply (sound_mid c Set.univ (grid1.coords t) _ _ _ _ _ _ _ _ (iblk1 V c 0 t) _ (runAt V c t.val) hf h1 _)
      isplitl [H0]; · iexact H0
      isplitl [H1]; · iexact H1
      isplitl [HS0]; · iexact HS0
      isplitl [HS1]; · iexact HS1
      iintro ⟨H0, H1, HS0, HS1⟩
      isplitl [HR HS0 HS1]
      · isplitl [HR]; · iexact HR
        iexists (step (BitVec.ofNat 32 (grid1.coords t 1).val) (iblk1 V c 0 t) (runAt V c t.val))
        isplitr; · ipureintro; intro _; rw [runAt_succ, if_neg h0]
        isplitl [HS0]; · iexact HS0
        iexact HS1
      isplitl [Ho]; · iexact Ho
      isplitl [H0]; · iexact H0
      iexists d1; iexact H1

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => sorted (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = sorted (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_sort c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions
end Cert.KernelIdeal.Net

end
-- ==== Proof.Run.Frame.lean ====
/- The whole kernel run, from the launch to the return: every buffer at its end. -/
module

public import proofs.«01_k».proof.Proof.Run.Regions
public import Idealize.ShloMosaic.Lib.Pipeline.RegionsLoop
public import Idealize.ShloMosaic.Lib.Pipeline.FrameSuffix

@[expose] public section

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor
abbrev hostOps0_W : List (Ref sig .tc) := [main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_v0]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_c_0]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_fresh : (hostOps0_3 : List (HloOp τ sig (Elt F))).Forall fun op => op.fresh = ∅ := by
  simp only [List.Forall]; repeat' constructor
abbrev hostOps0_3_W : List (Ref sig .tc) := [main_call1_v0, main_v1]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v4, main_v5, main_v6, main_v7, main_v8, main_v9]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps2_1_fresh : (hostOps2_1 : List (HloOp τ sig (Elt F))).Forall fun op => op.fresh = ∅ := by
  simp only [List.Forall]; repeat' constructor
abbrev hostOps2_1_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v10]
theorem hostOps2_1_writes : (hostOps2_1 : List (HloOp τ sig (Elt F))).Forall fun op => op.writes ⊆ (hostOps2_1_W.map (Proc.devRef (τ := τ) .tc)).toFinset :=
  StableHlo.forall_writes_sub_of_map rfl
theorem hostOps2_1_args : ∀ a ∈ argRefs, a ∉ hostOps2_1_W := ListAll.forall_mem_of_all_decide (by decide +kernel)

theorem hostOps2_2_fresh : (hostOps2_2 : List (HloOp τ sig (Elt F))).Forall fun op => op.fresh = ∅ := by
  simp only [List.Forall]; repeat' constructor
abbrev hostOps2_2_W : List (Ref sig .tc) := [main_cst]
theorem hostOps2_2_writes : (hostOps2_2 : List (HloOp τ sig (Elt F))).Forall fun op => op.writes ⊆ (hostOps2_2_W.map (Proc.devRef (τ := τ) .tc)).toFinset :=
  StableHlo.forall_writes_sub_of_map rfl
theorem hostOps2_2_args : ∀ a ∈ argRefs, a ∉ hostOps2_2_W := ListAll.forall_mem_of_all_decide (by decide +kernel)

theorem hostOps2_3_fresh : (hostOps2_3 : List (HloOp τ sig (Elt F))).Forall fun op => op.fresh = ∅ := by
  simp only [List.Forall]; repeat' constructor
abbrev hostOps2_3_W : List (Ref sig .tc) := [main_call3_v0, main_v11]
theorem hostOps2_3_writes : (hostOps2_3 : List (HloOp τ sig (Elt F))).Forall fun op => op.writes ⊆ (hostOps2_3_W.map (Proc.devRef (τ := τ) .tc)).toFinset :=
  StableHlo.forall_writes_sub_of_map rfl
theorem hostOps2_3_args : ∀ a ∈ argRefs, a ∉ hostOps2_3_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v13, main_v14]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

theorem hostOps3_1_fresh : (hostOps3_1 : List (HloOp τ sig (Elt F))).Forall fun op => op.fresh = ∅ := by
  simp only [List.Forall]; repeat' constructor
abbrev hostOps3_1_W : List (Ref sig .tc) := [main_call4_c, main_call4_v0, main_call4_v1, main_call4_c_0, main_call4_v2, main_call4_v3, main_call4_v4, main_call4_c_1, main_call4_c_2, main_call4_v5, main_call4_v6, main_call4_v7, main_call4_v8, main_call4_v9, main_call4_v10, main_call4_c_3, main_call4_v11, main_call4_v12, main_call4_v13, main_call4_c_4, main_call4_v14, main_v15]
theorem hostOps3_1_writes : (hostOps3_1 : List (HloOp τ sig (Elt F))).Forall fun op => op.writes ⊆ (hostOps3_1_W.map (Proc.devRef (τ := τ) .tc)).toFinset :=
  StableHlo.forall_writes_sub_of_map rfl
theorem hostOps3_1_args : ∀ a ∈ argRefs, a ∉ hostOps3_1_W := ListAll.forall_mem_of_all_decide (by decide +kernel)

theorem hostOps3_2_fresh : (hostOps3_2 : List (HloOp τ sig (Elt F))).Forall fun op => op.fresh = ∅ := by
  simp only [List.Forall]; repeat' constructor
abbrev hostOps3_2_W : List (Ref sig .tc) := [main_v16, main_v17, main_v18, main_v19, main_v20, main_v21, main_v22, main_v23]
theorem hostOps3_2_writes : (hostOps3_2 : List (HloOp τ sig (Elt F))).Forall fun op => op.writes ⊆ (hostOps3_2_W.map (Proc.devRef (τ := τ) .tc)).toFinset :=
  StableHlo.forall_writes_sub_of_map rfl
theorem hostOps3_2_args : ∀ a ∈ argRefs, a ∉ hostOps3_2_W := ListAll.forall_mem_of_all_decide (by decide +kernel)

theorem hostOps3_3_fresh : (hostOps3_3 : List (HloOp τ sig (Elt F))).Forall fun op => op.fresh = ∅ := by
  simp only [List.Forall]; repeat' constructor
abbrev hostOps3_3_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v24]
theorem hostOps3_3_writes : (hostOps3_3 : List (HloOp τ sig (Elt F))).Forall fun op => op.writes ⊆ (hostOps3_3_W.map (Proc.devRef (τ := τ) .tc)).toFinset :=
  StableHlo.forall_writes_sub_of_map rfl
theorem hostOps3_3_args : ∀ a ∈ argRefs, a ∉ hostOps3_3_W := ListAll.forall_mem_of_all_decide (by decide +kernel)

theorem hostOps3_4_fresh : (hostOps3_4 : List (HloOp τ sig (Elt F))).Forall fun op => op.fresh = ∅ := by
  simp only [List.Forall]; repeat' constructor
abbrev hostOps3_4_W : List (Ref sig .tc) := [main_v25, main_v26, main_values, main_indices, main_v27]
theorem hostOps3_4_writes : (hostOps3_4 : List (HloOp τ sig (Elt F))).Forall fun op => op.writes ⊆ (hostOps3_4_W.map (Proc.devRef (τ := τ) .tc)).toFinset :=
  StableHlo.forall_writes_sub_of_map rfl
theorem hostOps3_4_args : ∀ a ∈ argRefs, a ∉ hostOps3_4_W := ListAll.forall_mem_of_all_decide (by decide +kernel)

theorem hostOps3_5_fresh : (hostOps3_5 : List (HloOp τ sig (Elt F))).Forall fun op => op.fresh = ∅ := by
  simp only [List.Forall]; repeat' constructor
abbrev hostOps3_5_W : List (Ref sig .tc) := [main_call6_c, main_call6_v0, main_call6_v1, main_call6_c_0, main_call6_v2, main_call6_v3, main_call6_v4, main_call6_c_1, main_call6_c_2, main_call6_v5, main_call6_v6, main_call6_v7, main_call6_v8, main_call6_v9, main_call6_v10, main_call6_c_3, main_call6_v11, main_call6_v12, main_call6_v13, main_call6_c_4, main_call6_v14, main_v28]
theorem hostOps3_5_writes : (hostOps3_5 : List (HloOp τ sig (Elt F))).Forall fun op => op.writes ⊆ (hostOps3_5_W.map (Proc.devRef (τ := τ) .tc)).toFinset :=
  StableHlo.forall_writes_sub_of_map rfl
theorem hostOps3_5_args : ∀ a ∈ argRefs, a ∉ hostOps3_5_W := ListAll.forall_mem_of_all_decide (by decide +kernel)

theorem hostOps3_6_fresh : (hostOps3_6 : List (HloOp τ sig (Elt F))).Forall fun op => op.fresh = ∅ := by
  simp only [List.Forall]; repeat' constructor
abbrev hostOps3_6_W : List (Ref sig .tc) := [main_v29, main_v30, main_v31, main_v32, main_v33, main_v34, main_cst_1, main_v35]
theorem hostOps3_6_writes : (hostOps3_6 : List (HloOp τ sig (Elt F))).Forall fun op => op.writes ⊆ (hostOps3_6_W.map (Proc.devRef (τ := τ) .tc)).toFinset :=
  StableHlo.forall_writes_sub_of_map rfl
theorem hostOps3_6_args : ∀ a ∈ argRefs, a ∉ hostOps3_6_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
abbrev V4 : (c : Dev nD) → (b : Ref sig .tc) → Buf (Elt F) ((c : Thread nD τ).loc b) := fun c b => W4 m ρ c b
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
theorem W5_of (c : Dev nD) (r : Ref sig .tc) (h : ∀ w : Fin cfg0.W, Pipeline.arrRef spec0 w = r → (cfg0.win w).isOut = false) :
    W5 m ρ c (Proc.devRef .tc r) = W4 m ρ c (Proc.devRef .tc r) := by
  by_cases hw : ∃ w : Fin cfg0.W, Pipeline.arrRef spec0 w = r
  · obtain ⟨w, rfl⟩ := hw
    exact (W5_arr m ρ c w).trans (((dat0 (V4 m ρ) c).arrAt_in w (h w rfl) _).trans (A_eq0 (V4 m ρ) c w))
  · exact W5_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn0 a ha)).trans (W4_args m ρ c a ha)
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)
abbrev W8 : Dev nD → Valuation τ sig (Elt F) := fun c => StableHlo.after hostOps2_1 (W7 m ρ c)
theorem W8_of (c : Dev nD) (r : Ref sig .tc) (h : r ∉ hostOps2_1_W) : W8 m ρ c (Proc.devRef .tc r) = W7 m ρ c (Proc.devRef .tc r) :=
  StableHlo.after_of_writes_sub hostOps2_1 _ hostOps2_1_writes h
theorem W8_args (c : Dev nD) : ∀ a ∈ argRefs, W8 m ρ c (Proc.devRef .tc a) = m ((c : Thread nD τ).loc a) :=
  fun a ha => (W8_of m ρ c a (hostOps2_1_args a ha)).trans (W7_args m ρ c a ha)
abbrev W9 : Dev nD → Valuation τ sig (Elt F) := fun c => StableHlo.after hostOps2_2 (W8 m ρ c)
theorem W9_of (c : Dev nD) (r : Ref sig .tc) (h : r ∉ hostOps2_2_W) : W9 m ρ c (Proc.devRef .tc r) = W8 m ρ c (Proc.devRef .tc r) :=
  StableHlo.after_of_writes_sub hostOps2_2 _ hostOps2_2_writes h
theorem W9_args (c : Dev nD) : ∀ a ∈ argRefs, W9 m ρ c (Proc.devRef .tc a) = m ((c : Thread nD τ).loc a) :=
  fun a ha => (W9_of m ρ c a (hostOps2_2_args a ha)).trans (W8_args m ρ c a ha)
abbrev W10 : Dev nD → Valuation τ sig (Elt F) := fun c => StableHlo.after hostOps2_3 (W9 m ρ c)
theorem W10_of (c : Dev nD) (r : Ref sig .tc) (h : r ∉ hostOps2_3_W) : W10 m ρ c (Proc.devRef .tc r) = W9 m ρ c (Proc.devRef .tc r) :=
  StableHlo.after_of_writes_sub hostOps2_3 _ hostOps2_3_writes h
theorem W10_args (c : Dev nD) : ∀ a ∈ argRefs, W10 m ρ c (Proc.devRef .tc a) = m ((c : Thread nD τ).loc a) :=
  fun a ha => (W10_of m ρ c a (hostOps2_3_args a ha)).trans (W9_args m ρ c a ha)
abbrev V10 : (c : Dev nD) → (b : Ref sig .tc) → Buf (Elt F) ((c : Thread nD τ).loc b) := fun c b => W10 m ρ c b
def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
theorem W11_of (c : Dev nD) (r : Ref sig .tc) (h : ∀ w : Fin cfg2.W, Pipeline.arrRef spec2 w = r → (cfg2.win w).isOut = false) :
    W11 m ρ c (Proc.devRef .tc r) = W10 m ρ c (Proc.devRef .tc r) := by
  by_cases hw : ∃ w : Fin cfg2.W, Pipeline.arrRef spec2 w = r
  · obtain ⟨w, rfl⟩ := hw
    exact (W11_arr m ρ c w).trans (((dat2 (V10 m ρ) c).arrAt_in w (h w rfl) _).trans (A_eq2 (V10 m ρ) c w))
  · exact W11_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn2 a ha)).trans (W10_args m ρ c a ha)
abbrev V11 : (c : Dev nD) → (b : Ref sig .tc) → Buf (Elt F) ((c : Thread nD τ).loc b) := fun c b => W11 m ρ c b
theorem hF2 (c : Dev nD) (w : Fin cfg2.W) : (dat2 (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)

abbrev W12 : Dev nD → Valuation τ sig (Elt F) := fun c => StableHlo.after hostOps3 (W11 m ρ c)
theorem W12_of (c : Dev nD) (r : Ref sig .tc) (h : r ∉ hostOps3_W) : W12 m ρ c (Proc.devRef .tc r) = W11 m ρ c (Proc.devRef .tc r) :=
  StableHlo.after_of_writes_sub hostOps3 _ hostOps3_writes h
theorem W12_args (c : Dev nD) : ∀ a ∈ argRefs, W12 m ρ c (Proc.devRef .tc a) = m ((c : Thread nD τ).loc a) :=
  fun a ha => (W12_of m ρ c a (hostOps3_args a ha)).trans (W11_args m ρ c a ha)
abbrev W13 : Dev nD → Valuation τ sig (Elt F) := fun c => StableHlo.after hostOps3_1 (W12 m ρ c)
theorem W13_of (c : Dev nD) (r : Ref sig .tc) (h : r ∉ hostOps3_1_W) : W13 m ρ c (Proc.devRef .tc r) = W12 m ρ c (Proc.devRef .tc r) :=
  StableHlo.after_of_writes_sub hostOps3_1 _ hostOps3_1_writes h
theorem W13_args (c : Dev nD) : ∀ a ∈ argRefs, W13 m ρ c (Proc.devRef .tc a) = m ((c : Thread nD τ).loc a) :=
  fun a ha => (W13_of m ρ c a (hostOps3_1_args a ha)).trans (W12_args m ρ c a ha)
abbrev W14 : Dev nD → Valuation τ sig (Elt F) := fun c => StableHlo.after hostOps3_2 (W13 m ρ c)
theorem W14_of (c : Dev nD) (r : Ref sig .tc) (h : r ∉ hostOps3_2_W) : W14 m ρ c (Proc.devRef .tc r) = W13 m ρ c (Proc.devRef .tc r) :=
  StableHlo.after_of_writes_sub hostOps3_2 _ hostOps3_2_writes h
theorem W14_args (c : Dev nD) : ∀ a ∈ argRefs, W14 m ρ c (Proc.devRef .tc a) = m ((c : Thread nD τ).loc a) :=
  fun a ha => (W14_of m ρ c a (hostOps3_2_args a ha)).trans (W13_args m ρ c a ha)
abbrev W15 : Dev nD → Valuation τ sig (Elt F) := fun c => StableHlo.after hostOps3_3 (W14 m ρ c)
theorem W15_of (c : Dev nD) (r : Ref sig .tc) (h : r ∉ hostOps3_3_W) : W15 m ρ c (Proc.devRef .tc r) = W14 m ρ c (Proc.devRef .tc r) :=
  StableHlo.after_of_writes_sub hostOps3_3 _ hostOps3_3_writes h
theorem W15_args (c : Dev nD) : ∀ a ∈ argRefs, W15 m ρ c (Proc.devRef .tc a) = m ((c : Thread nD τ).loc a) :=
  fun a ha => (W15_of m ρ c a (hostOps3_3_args a ha)).trans (W14_args m ρ c a ha)
abbrev W16 : Dev nD → Valuation τ sig (Elt F) := fun c => StableHlo.after hostOps3_4 (W15 m ρ c)
theorem W16_of (c : Dev nD) (r : Ref sig .tc) (h : r ∉ hostOps3_4_W) : W16 m ρ c (Proc.devRef .tc r) = W15 m ρ c (Proc.devRef .tc r) :=
  StableHlo.after_of_writes_sub hostOps3_4 _ hostOps3_4_writes h
theorem W16_args (c : Dev nD) : ∀ a ∈ argRefs, W16 m ρ c (Proc.devRef .tc a) = m ((c : Thread nD τ).loc a) :=
  fun a ha => (W16_of m ρ c a (hostOps3_4_args a ha)).trans (W15_args m ρ c a ha)
abbrev W17 : Dev nD → Valuation τ sig (Elt F) := fun c => StableHlo.after hostOps3_5 (W16 m ρ c)
theorem W17_of (c : Dev nD) (r : Ref sig .tc) (h : r ∉ hostOps3_5_W) : W17 m ρ c (Proc.devRef .tc r) = W16 m ρ c (Proc.devRef .tc r) :=
  StableHlo.after_of_writes_sub hostOps3_5 _ hostOps3_5_writes h
theorem W17_args (c : Dev nD) : ∀ a ∈ argRefs, W17 m ρ c (Proc.devRef .tc a) = m ((c : Thread nD τ).loc a) :=
  fun a ha => (W17_of m ρ c a (hostOps3_5_args a ha)).trans (W16_args m ρ c a ha)
abbrev W18 : Dev nD → Valuation τ sig (Elt F) := fun c => StableHlo.after hostOps3_6 (W17 m ρ c)
theorem W18_of (c : Dev nD) (r : Ref sig .tc) (h : r ∉ hostOps3_6_W) : W18 m ρ c (Proc.devRef .tc r) = W17 m ρ c (Proc.devRef .tc r) :=
  StableHlo.after_of_writes_sub hostOps3_6 _ hostOps3_6_writes h
theorem W18_args (c : Dev nD) : ∀ a ∈ argRefs, W18 m ρ c (Proc.devRef .tc a) = m ((c : Thread nD τ).loc a) :=
  fun a ha => (W18_of m ρ c a (hostOps3_6_args a ha)).trans (W17_args m ρ c a ha)

theorem W18_main_arg0 (c : Dev nD) : W18 m ρ c (Proc.devRef .tc main_arg0) = m ((c : Thread nD τ).loc main_arg0) :=
  W18_args m ρ c main_arg0 (by decide)
theorem W18_main_arg1 (c : Dev nD) : W18 m ρ c (Proc.devRef .tc main_arg1) = m ((c : Thread nD τ).loc main_arg1) :=
  W18_args m ρ c main_arg1 (by decide)
theorem W18_main_arg2 (c : Dev nD) : W18 m ρ c (Proc.devRef .tc main_arg2) = m ((c : Thread nD τ).loc main_arg2) :=
  W18_args m ρ c main_arg2 (by decide)
theorem W18_main_arg3 (c : Dev nD) : W18 m ρ c (Proc.devRef .tc main_arg3) = m ((c : Thread nD τ).loc main_arg3) :=
  W18_args m ρ c main_arg3 (by decide)
theorem W18_main_arg4 (c : Dev nD) : W18 m ρ c (Proc.devRef .tc main_arg4) = m ((c : Thread nD τ).loc main_arg4) :=
  W18_args m ρ c main_arg4 (by decide)
theorem W18_main_arg5 (c : Dev nD) : W18 m ρ c (Proc.devRef .tc main_arg5) = m ((c : Thread nD τ).loc main_arg5) :=
  W18_args m ρ c main_arg5 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V5 m ρ) c
  | ⟨2, _⟩ => fun c => dat2 (V10 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W18 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) (A_eq0 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (inv1_in (V5 m ρ) c)
    unfold Pipeline.ΦA
    iintro ⟨Hp, -, Hr⟩
    isplitl [Hr]; · iexact Hr
    iexact Hp
  hout c := by
    rw [Pipeline.ownSems0_none]
    refine BIBase.Entails.trans (inv1_out (V5 m ρ) c _) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V10 m ρ) c).loose
  hwaits := Pipeline.hwaits_of_owed_zero _ _ _ _ L lv 2 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V10 m ρ c) (A_eq2 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V10 m ρ c) (V11 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .host (hseg hostOps2_3 hostOps2_3_sub hostOps2_3_fresh (W9 m ρ)),
    .region (reg2 m ρ),
    .host (hseg hostOps3 hostOps3_sub hostOps3_fresh (W11 m ρ)),
    .host (hseg hostOps3_1 hostOps3_1_sub hostOps3_1_fresh (W12 m ρ)),
    .host (hseg hostOps3_2 hostOps3_2_sub hostOps3_2_fresh (W13 m ρ)),
    .host (hseg hostOps3_3 hostOps3_3_sub hostOps3_3_fresh (W14 m ρ)),
    .host (hseg hostOps3_4 hostOps3_4_sub hostOps3_4_fresh (W15 m ρ)),
    .host (hseg hostOps3_5 hostOps3_5_sub hostOps3_5_fresh (W16 m ρ)),
    .host (hseg hostOps3_6 hostOps3_6_sub hostOps3_6_fresh (W17 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every fair execution ends, nothing faulting, with every unscoped buffer at the last boundary's contents and every
    counter at zero. -/
theorem run_ends : θ_run defs (onTc (τ := τ) (main (F := F))) ⟨m, fun _ => 0, ρ⟩ (fun r => (∀ c : Dev nD,
      ∀ b ∈ Pipeline.ucRefs τ sig, r.2.mem (((c : Thread nD τ)).1, b) = W18 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h hz => ⟨fun c b hb => h c b hb, funext fun g => hz g (.inr (no_unscoped g.2))⟩)

/-- The arguments end as they were launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ ⟨h, hs⟩ => ⟨fun c =>
       ⟨(h c _ (mem_uc main_arg0 (by decide))).trans (W18_main_arg0 m ρ c),
        (h c _ (mem_uc main_arg1 (by decide))).trans (W18_main_arg1 m ρ c),
        (h c _ (mem_uc main_arg2 (by decide))).trans (W18_main_arg2 m ρ c),
        (h c _ (mem_uc main_arg3 (by decide))).trans (W18_main_arg3 m ρ c),
        (h c _ (mem_uc main_arg4 (by decide))).trans (W18_main_arg4 m ρ c),
        (h c _ (mem_uc main_arg5 (by decide))).trans (W18_main_arg5 m ρ c)⟩, hs⟩) (run_ends m ρ)

end Cert.KernelIdeal.Net

end
-- ==== Proof.Val.Order.lean ====
/- The order both sides select by: the larger value first and, among equal values, the smaller index. An entry is a value with its
   index; a stable sort of values alone, which moves the positions along, lists the entries of a row in descending order. -/
module

public import Idealize.ShloMosaic.PureOps.Ideal
public import Idealize.ShloMosaic.Lib.SortFacts
public import Idealize.ShloMosaic.Lib.SortNet.Lists
public import Idealize.ShloMosaic.Lib.SortNet.Sorts
public import Mathlib.Data.Prod.Lex

@[expose] public section

noncomputable section

namespace Cert.Order

open Idealize.ShloMosaic Idealize.ShloMosaic.SortNet

/-- A value with its index; of two entries the greater is the one to be listed first. -/
abbrev Entry := Lex (EReal × ℤᵒᵈ)

def entry (v : EReal) (i : ℤ) : Entry := toLex (v, OrderDual.toDual i)

theorem entry_lt {v w : EReal} {i j : ℤ} : entry v i < entry w j ↔ v < w ∨ v = w ∧ j < i := by
  unfold entry
  rw [Prod.Lex.toLex_lt_toLex]
  exact Iff.rfl

theorem entry_inj {v w : EReal} {i j : ℤ} (h : entry v i = entry w j) : v = w ∧ i = j :=
  ⟨congrArg (fun e : Entry => (ofLex e).1) h, congrArg (fun e : Entry => OrderDual.ofDual (ofLex e).2) h⟩

theorem entry_le_of_bot {v : EReal} {i : ℤ} (w : EReal) (j : ℤ) (hw : v < w) : entry v i ≤ entry w j :=
  le_of_lt (entry_lt.mpr (.inl hw))

/-! ## The stable sort of a row -/

section stable

variable {n : ℕ} (f : Fin n → EReal)

/-- The entries of a row. -/
def row (i : Fin n) : Entry := entry (f i) (i.val : ℤ)

/-- Whether position `a` is to be listed before position `b` by value alone. -/
def before (a b : Fin n) : Bool := decide (f b < f a)

theorem insert_descends (a : Fin n) (l : List (Fin n)) (ha : ∀ b ∈ l, a < b) (hl : l.Pairwise fun b c => row f b ≥ row f c) :
    (insertBefore (before f) a l).Pairwise fun b c => row f b ≥ row f c := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem b hc)) hl.2⟩
      rcases List.mem_cons.mp ((perm_insertBefore _ a l).mem_iff.mp hc) with rfl | hc
      · exact le_of_lt (entry_lt.mpr (.inl (of_decide_eq_true h)))
      · exact hl.1 c hc
    · rename_i h
      have hab : row f b ≤ row f a := by
        rcases lt_or_eq_of_le (not_lt.mp fun q => h (decide_eq_true q)) with q | q
        · exact le_of_lt (entry_lt.mpr (.inl q))
        · exact le_of_lt (entry_lt.mpr (.inr ⟨q, by exact_mod_cast ha b List.mem_cons_self⟩))
      refine List.pairwise_cons.mpr ⟨fun c hc => ?_, List.pairwise_cons.mpr hl⟩
      rcases List.mem_cons.mp hc with rfl | hc
      · exact hab
      · exact le_trans (hl.1 c hc) hab

theorem stable_descends (l : List (Fin n)) (hl : l.Pairwise (· < ·)) :
    (stableSort (before f) l).Pairwise fun b c => row f b ≥ row f c := by
  induction l with
  | nil => exact List.Pairwise.nil
  | cons a l ih =>
    rw [List.pairwise_cons] at hl
    unfold stableSort
    exact insert_descends f a _ (fun b hb => hl.1 b ((perm_stableSort _ l).mem_iff.mp hb)) (ih hl.2)

/-- THE STABLE SORT'S ENTRIES, in the order it lists them, are the row's entries sorted descending. -/
theorem sortedFrom_entries :
    (List.ofFn fun k => row f (sortedFrom (before f) k)) = topList n (List.ofFn (row f)) := by
  have hd : (sortPositions n (before f)).Pairwise fun b c => row f b ≥ row f c :=
    stable_descends f (List.finRange n) (List.pairwise_lt_finRange n)
  have e : (List.ofFn fun k => row f (sortedFrom (before f) k)) = (sortPositions n (before f)).map (row f) := by
    apply List.ext_get
    · rw [List.length_ofFn, List.length_map, length_sortPositions]
    · intro k h1 h2
      rw [List.get_ofFn, List.get_eq_getElem, List.getElem_map]
      rfl
  rw [e]
  have hp : ((sortPositions n (before f)).map (row f)).Perm (List.ofFn (row f)) := by
    rw [List.ofFn_eq_map]
    exact (perm_sortPositions n _).map _
  have h2 := topList_eq_self (k := n) (List.pairwise_map.mpr hd) (by rw [List.length_map, length_sortPositions])
  rw [← h2]
  exact topList_perm hp

/-- The entry a row's selection lists at place `k`. -/
theorem topList_get (m : ℕ) (k : Fin n) (hk : k.val < m) :
    (topList m (List.ofFn (row f)))[k.val]? = some (row f (sortedFrom (before f) k)) := by
  have h := sortedFrom_entries f
  have e : (topList m (List.ofFn (row f)))[k.val]? = (topList n (List.ofFn (row f)))[k.val]? := by
    unfold topList
    rw [List.getElem?_take_of_lt hk, List.getElem?_take_of_lt k.isLt]
  rw [e, ← h, List.getElem?_ofFn, dif_pos k.isLt]

end stable

/-! ## The networks -/

/-- The stages of the whole sort in order: distances and block sizes, as exponents. -/
def sortStages (p : ℕ) : List (ℕ × ℕ) :=
  (List.range p).flatMap fun l => (List.range (l + 1)).reverse.map fun s => (s, l + 1)

/-- The stages of a merge. -/
def mergeStages (p : ℕ) : List (ℕ × ℕ) := (List.range p).reverse.map fun s => (s, p)

/-- One stage at a distance and a block size given as exponents. -/
def net (p : ℕ) (q : ℕ × ℕ) : Network (2 ^ p) := stage p q.1 fun i => decide (i.val &&& 2 ^ q.2 = 0) == true

theorem sortNet_eq (p : ℕ) : sortNet p true = (sortStages p).flatMap (net p) := by
  unfold sortNet sortStages
  rw [List.flatMap_assoc]
  congr 1
  funext l
  rw [List.flatMap_map]
  rfl

theorem mergeNet_eq (p : ℕ) : mergeDescNet p = (mergeStages p).flatMap (net p) := by
  unfold mergeDescNet mergeStages
  rw [List.flatMap_map]
  congr 1
  funext s
  refine stage_congr fun i _ => ?_
  have : i.val &&& 2 ^ p = 0 := (and_two_pow_eq_zero_iff_testBit _ _).mpr (Nat.testBit_lt_two_pow i.isLt)
  simp [this]

/-- A sorted vector lists its entries' greatest. -/
theorem sort_list {α : Type*} [LinearOrder α] (p : ℕ) (v : Fin (2 ^ p) → α) :
    List.ofFn (Network.apply (sortNet p true) v) = topList (2 ^ p) (List.ofFn v) := by
  have ha := sortNet_apply_antitone p v
  obtain ⟨σ, hσ⟩ := Network.exists_perm (sortNet p true) v
  have hp : (List.ofFn (Network.apply (sortNet p true) v)).Perm (List.ofFn v) := by
    rw [hσ]; exact Equiv.Perm.ofFn_comp_perm σ v
  have h2 := topList_eq_self (k := 2 ^ p) (l := List.ofFn (Network.apply (sortNet p true) v))
    (List.pairwise_ofFn.mpr fun i j hij => ha (le_of_lt hij)) (by rw [List.length_ofFn])
  rw [← h2]
  exact topList_perm hp

end Cert.Order

end
-- ==== Proof.Val.Ix.lean ====
/- Arrays of two and three axes read at coordinates, and the positions a row's selection hands out. -/
module

public import proofs.«01_k».proof.Proof.Val.Order
public import Idealize.ShloMosaic.Lib.Pipeline.Value
public import Idealize.ShloMosaic.PureOps.Ideal.Laws

@[expose] public section

noncomputable section

namespace Cert.Order

open Idealize.ShloMosaic

/-- The index with coordinates `i` and `j`; with `i`, `j` and `k`. -/
def pt2 {a b : ℕ} (i : Fin a) (j : Fin b) : (⟨2, ![a, b]⟩ : Shape).Idx
  | ⟨0, _⟩ => i
  | ⟨1, _⟩ => j

def pt3 {a b c : ℕ} (i : Fin a) (j : Fin b) (k : Fin c) : (⟨3, ![a, b, c]⟩ : Shape).Idx
  | ⟨0, _⟩ => i
  | ⟨1, _⟩ => j
  | ⟨2, _⟩ => k

theorem pt2_eq {a b : ℕ} (j : (⟨2, ![a, b]⟩ : Shape).Idx) : pt2 (a := a) (b := b) (j 0) (j 1) = j :=
  funext fun | ⟨0, _⟩ => rfl | ⟨1, _⟩ => rfl

theorem pt3_eq {a b c : ℕ} (j : (⟨3, ![a, b, c]⟩ : Shape).Idx) : pt3 (a := a) (b := b) (c := c) (j 0) (j 1) (j 2) = j :=
  funext fun | ⟨0, _⟩ => rfl | ⟨1, _⟩ => rfl | ⟨2, _⟩ => rfl

theorem ext2 {α : Type*} {a b : ℕ} {x y : (⟨2, ![a, b]⟩ : Shape).Idx → α} (h : ∀ i j, x (pt2 i j) = y (pt2 i j)) : x = y :=
  funext fun j => by rw [← pt2_eq j]; exact h _ _

theorem ext3 {α : Type*} {a b c : ℕ} {x y : (⟨3, ![a, b, c]⟩ : Shape).Idx → α} (h : ∀ i j k, x (pt3 i j k) = y (pt3 i j k)) : x = y :=
  funext fun j => by rw [← pt3_eq j]; exact h _ _ _

theorem rm2 {a b : ℕ} (i : Fin a) (j : Fin b) : ((⟨2, ![a, b]⟩ : Shape).rowMajor (pt2 i j)).val = i.val * b + j.val := by
  rw [Shape.rowMajor_val_two]; rfl

theorem rm3 {a b c : ℕ} (i : Fin a) (j : Fin b) (k : Fin c) :
    ((⟨3, ![a, b, c]⟩ : Shape).rowMajor (pt3 i j k)).val = i.val * (b * c) + j.val * c + k.val := by
  rw [Shape.rowMajor_val_three]
  show (i.val * b + j.val) * c + k.val = _
  rw [Nat.add_mul, Nat.mul_assoc]

theorem slice_at {α : Type} {a n t : ℕ} (ht : t ≤ n) (off : Fin 2 → ℕ) (h0 : off 0 = 0) (h1 : off 1 = 0) (y : (⟨2, ![a, n]⟩ : Shape).Idx → α) (h) (i : Fin a) (k : Fin t) :
    extractStridedSlice (s := ⟨2, ![a, n]⟩) ⟨2, ![a, t]⟩ off y h (pt2 i k) = y (pt2 i ⟨k.val, lt_of_lt_of_le k.isLt ht⟩) := by
  unfold extractStridedSlice
  refine congrArg y (funext fun b => ?_)
  match b with
  | ⟨0, _⟩ => exact Fin.ext ((congrArg (· + i.val) h0).trans (Nat.zero_add _))
  | ⟨1, _⟩ => exact Fin.ext ((congrArg (· + k.val) h1).trans (Nat.zero_add _))

theorem update_at {a n : ℕ} (i : Fin a) (k r : Fin n) :
    Shape.Idx.along (pt2 i k : (⟨2, ![a, n]⟩ : Shape).Idx) 1 r = pt2 i r :=
  funext fun | ⟨0, _⟩ => rfl | ⟨1, _⟩ => rfl

theorem gt_at {a n : ℕ} (x : (⟨2, ![a, n]⟩ : Shape).Idx → EReal) (i : Fin a) (r s : Fin n) :
    (FloatOps.cmpfTotal (F := Ideal) (φ := .f32) .gt (x (pt2 i r)) (x (pt2 i s)) == 1#1) = before (fun c => x (pt2 i c)) r s := by
  show (BitVec.ofBool (decide (x (pt2 i s) < x (pt2 i r))) == 1#1) = _
  unfold before
  cases decide (x (pt2 i s) < x (pt2 i r)) <;> rfl

/-- The position a row's selection hands out at place `k`. -/
theorem topK_at {a n t : ℕ} (ht : t ≤ n) (x : (⟨2, ![a, n]⟩ : Shape).Idx → EReal) (h) (i : Fin a) (k : Fin t) :
    (Host.topK (s := ⟨2, ![a, n]⟩) ⟨2, ![a, t]⟩ 1 (FloatOps.cmpfTotal (F := Ideal) (φ := .f32) .gt) x h).2 (pt2 i k)
      = BitVec.ofNat 32 (sortedFrom (before fun c => x (pt2 i c)) ⟨k.val, lt_of_lt_of_le k.isLt ht⟩).val := by
  unfold Host.topK
  dsimp only
  rw [slice_at ht _ rfl rfl]
  unfold Host.sort2
  rw [dif_pos (by decide : 1 < 2)]
  dsimp only
  rw [dif_pos (by decide : 1 < 2)]
  have hs : (fun k1 k2 : Fin n => FloatOps.cmpfTotal (F := Ideal) (φ := .f32) .gt (x (Shape.Idx.along (pt2 i ⟨k.val, lt_of_lt_of_le k.isLt ht⟩ : (⟨2, ![a, n]⟩ : Shape).Idx) 1 k1))
      (x (Shape.Idx.along (pt2 i ⟨k.val, lt_of_lt_of_le k.isLt ht⟩ : (⟨2, ![a, n]⟩ : Shape).Idx) 1 k2)) == 1#1) = before fun c => x (pt2 i c) := by
    funext k1 k2
    rw [update_at, update_at, gt_at]
  show BitVec.ofNat 32 (Shape.Idx.along (pt2 i ⟨k.val, lt_of_lt_of_le k.isLt ht⟩ : (⟨2, ![a, n]⟩ : Shape).Idx) 1 (sortedFrom (fun k1 k2 : Fin n => FloatOps.cmpfTotal (F := Ideal) (φ := .f32) .gt (x (Shape.Idx.along (pt2 i ⟨k.val, lt_of_lt_of_le k.isLt ht⟩ : (⟨2, ![a, n]⟩ : Shape).Idx) 1 k1))
      (x (Shape.Idx.along (pt2 i ⟨k.val, lt_of_lt_of_le k.isLt ht⟩ : (⟨2, ![a, n]⟩ : Shape).Idx) 1 k2)) == 1#1) ⟨k.val, lt_of_lt_of_le k.isLt ht⟩) 1).val = _
  rw [hs]
  rfl

end Cert.Order

end
-- ==== Proof.Val.Take.lean ====
/- Rows and entries taken by number: what the host's gathers read when every number is in range, and that the range checks around them
   change nothing then. -/
module

public import proofs.«01_k».proof.Proof.Val.Ix
public import Idealize.ShloMosaic.Lib.Routing.Ops
public import Idealize.ShloMosaic.Lib.ValueIdxCore

@[expose] public section

set_option maxRecDepth 16384

noncomputable section

namespace Cert.Order

open Idealize.ShloMosaic

/-- The index with the one coordinate `i`. -/
def pt1 {a : ℕ} (i : Fin a) : (⟨1, ![a]⟩ : Shape).Idx
  | ⟨0, _⟩ => i

theorem pt1_eq {a : ℕ} (j : (⟨1, ![a]⟩ : Shape).Idx) : pt1 (a := a) (j 0) = j :=
  funext fun | ⟨0, _⟩ => rfl

theorem rm1 {a : ℕ} (i : Fin a) : ((⟨1, ![a]⟩ : Shape).rowMajor (pt1 i)).val = i.val := by
  rw [Shape.rowMajor_val_one]; rfl

/-- The word of a number below `n`. -/
abbrev word (m : ℕ) : BitVec 32 := BitVec.ofNat 32 m

theorem word_toInt (m : ℕ) (h : m < 2 ^ 31) : (word m).toInt = (m : ℤ) := by
  have e : (BitVec.ofNat 32 m).toNat = m := by rw [BitVec.toNat_ofNat]; exact Nat.mod_eq_of_lt (by omega)
  rw [BitVec.toInt_eq_toNat_of_lt (by rw [e]; omega), e]

/-- Counting from the end is for negative numbers only. -/
theorem wrap_word {s : Shape} (w z n : IVec s 32) (hz : ∀ j, z j = 0#32) (hw : ∀ j, ∃ m, m < 2 ^ 31 ∧ w j = word m) :
    select (cmpi .slt w z) (addi w n) w = w := by
  funext j
  obtain ⟨m, hm, e⟩ := hw j
  have h : IntOp.cmpi .slt (w j) (z j) = 0#1 := by
    rw [e, hz]
    show BitVec.ofBool ((word m).slt 0#32) = 0#1
    rw [BitVec.slt_eq_decide, word_toInt m hm, show (0#32 : BitVec 32).toInt = 0 from rfl, decide_eq_false (by omega)]
    rfl
  show Scalar.select (IntOp.cmpi .slt (w j) (z j)) _ _ = _
  rw [h]
  rfl

theorem in_range (n m : ℕ) (hn : n < 2 ^ 31) (hm : m ≤ n) :
    IntOp.andi (IntOp.cmpi .sge (word m) 0#32) (IntOp.cmpi .sle (word m) (word n)) = 1#1 := by
  have h1 : IntOp.cmpi .sge (word m) 0#32 = 1#1 := by
    show BitVec.ofBool ((0#32).sle (word m)) = 1#1
    rw [BitVec.sle_eq_decide, word_toInt m (by omega), show (0#32 : BitVec 32).toInt = 0 from rfl, decide_eq_true (by omega)]
    rfl
  have h2 : IntOp.cmpi .sle (word m) (word n) = 1#1 := by
    show BitVec.ofBool ((word m).sle (word n)) = 1#1
    rw [BitVec.sle_eq_decide, word_toInt m (by omega), word_toInt n hn, decide_eq_true (by omega)]
    rfl
  rw [h1, h2]
  rfl

/-- Every number in range: the check holds everywhere. -/
theorem check_all {s t u : Shape} {axes : List (Fin s.rank)} (n : ℕ) (hn : n < 2 ^ 31) (w z b : IVec s 32) (one : IVec u 1) (h : s.ReducesTo axes t) (hu : 0 < u.numel)
    (hz : ∀ j, z j = 0#32) (hb : ∀ j, b j = word n) (hone : ∀ j, one j = 1#1) (hw : ∀ j, ∃ m, m ≤ n ∧ w j = word m) (j : t.Idx) :
    Host.reduce IntOp.andi (andi (cmpi .sge w z) (cmpi .sle w b)) one h hu j = 1#1 := by
  have hx : ∀ i, andi (cmpi .sge w z) (cmpi .sle w b) i = 1#1 := by
    intro i
    obtain ⟨m, hm, e⟩ := hw i
    show IntOp.andi (IntOp.cmpi .sge (w i) (z i)) (IntOp.cmpi .sle (w i) (b i)) = 1#1
    rw [e, hz, hb]
    exact in_range n m hn hm
  unfold Host.reduce
  rw [hone]
  generalize (List.finRange s.numel).filter _ = l
  induction l with
  | nil => rfl
  | cons a l ih =>
    rw [List.foldl_cons, hx]
    exact ih

theorem select_all {α : Type} {s : Shape} (c : IVec s 1) (x y : s.Idx → α) (hc : ∀ j, c j = 1#1) : select c x y = x := by
  funext j
  show Scalar.select (c j) _ _ = _
  rw [hc]
  rfl

/-- Entries of every row taken by number. -/
def alongDims (a n k : ℕ) (wf : GatherDims.WF ⟨2, ![a, n]⟩ ⟨3, ![a, k, 1]⟩ ⟨2, ![a, k]⟩ [] [1] [0] [1] [0] 2 ![1, 1]) :
    GatherDims ⟨2, ![a, n]⟩ ⟨3, ![a, k, 1]⟩ ⟨2, ![a, k]⟩ where
  offsetDims := []
  collapsedSliceDims := [1]
  operandBatchingDims := [0]
  startIndicesBatchingDims := [0]
  startIndexMap := [1]
  indexVectorDim := 2
  sliceSizes := ![1, 1]
  wf := wf

theorem along_at {α : Type} {a n k : ℕ} (wf) (x : (⟨2, ![a, n]⟩ : Shape).Idx → α) (idx : IVec ⟨3, ![a, k, 1]⟩ 32) (i : Fin a) (j : Fin k)
    (m : Fin n) (hm : idx (pt3 i j 0) = word m.val) (hn : n < 2 ^ 31) :
    Host.gather (alongDims a n k wf) x idx (pt2 i j) = x (pt2 i m) := by
  unfold Host.gather
  refine congrArg x (funext fun b => Fin.ext ?_)
  show (alongDims a n k wf).start (pt2 i j) idx b + (alongDims a n k wf).batchCoord (pt2 i j) b + (alongDims a n k wf).offCoord (pt2 i j) b = _
  have hb : b = 0 ∨ b = 1 := match b with | ⟨0, _⟩ => Or.inl rfl | ⟨1, _⟩ => Or.inr rfl
  rcases hb with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims a n k wf).operandBatchingDims from List.mem_singleton.mpr rfl)]
    rfl
  · rw [GatherDims.batchCoord_eq_zero _ _ _ (fun h => by simp [alongDims] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims a n k wf).startIndexMap from List.mem_singleton.mpr rfl)]
    have hsi : (alongDims a n k wf).siIdx (pt2 i j) ⟨List.idxOf (1 : Fin 2) (alongDims a n k wf).startIndexMap,
        List.idxOf_lt_length_iff.2 (List.mem_singleton.mpr rfl)⟩ = pt3 i j 0 := by
      funext b; refine Fin.ext ?_
      match b with
      | ⟨0, _⟩ => rfl
      | ⟨1, _⟩ => rfl
      | ⟨2, _⟩ => rfl
    rw [hsi, hm, word_toInt _ (by omega), Int.toNat_natCast]
    show min m.val (n - 1) = m.val
    omega

/-- Records of every row taken by number. -/
def along3Dims (a n k c : ℕ) (wf : GatherDims.WF ⟨3, ![a, n, c]⟩ ⟨3, ![a, k, 1]⟩ ⟨3, ![a, k, c]⟩ [2] [1] [0] [1] [0] 2 ![1, 1, c]) :
    GatherDims ⟨3, ![a, n, c]⟩ ⟨3, ![a, k, 1]⟩ ⟨3, ![a, k, c]⟩ where
  offsetDims := [2]
  collapsedSliceDims := [1]
  operandBatchingDims := [0]
  startIndicesBatchingDims := [0]
  startIndexMap := [1]
  indexVectorDim := 2
  sliceSizes := ![1, 1, c]
  wf := wf

theorem along3_at {α : Type} {a n k c : ℕ} (wf) (x : (⟨3, ![a, n, c]⟩ : Shape).Idx → α) (idx : IVec ⟨3, ![a, k, 1]⟩ 32) (i : Fin a) (j : Fin k) (d : Fin c)
    (m : Fin n) (hm : idx (pt3 i j 0) = word m.val) (hn : n < 2 ^ 31) :
    Host.gather (along3Dims a n k c wf) x idx (pt3 i j d) = x (pt3 i m d) := by
  unfold Host.gather
  refine congrArg x (funext fun b => Fin.ext ?_)
  show (along3Dims a n k c wf).start (pt3 i j d) idx b + (along3Dims a n k c wf).batchCoord (pt3 i j d) b + (along3Dims a n k c wf).offCoord (pt3 i j d) b = _
  have hb : b = 0 ∨ b = 1 ∨ b = 2 := match b with | ⟨0, _⟩ => Or.inl rfl | ⟨1, _⟩ => Or.inr (Or.inl rfl) | ⟨2, _⟩ => Or.inr (Or.inr rfl)
  rcases hb with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (along3Dims a n k c wf).operandBatchingDims from List.mem_singleton.mpr rfl)]
    rfl
  · rw [GatherDims.batchCoord_eq_zero _ _ _ (fun h => by simp [along3Dims] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (along3Dims a n k c wf).startIndexMap from List.mem_singleton.mpr rfl)]
    have hsi : (along3Dims a n k c wf).siIdx (pt3 i j d) ⟨List.idxOf (1 : Fin 3) (along3Dims a n k c wf).startIndexMap,
        List.idxOf_lt_length_iff.2 (List.mem_singleton.mpr rfl)⟩ = pt3 i j 0 := by
      funext b; refine Fin.ext ?_
      match b with
      | ⟨0, _⟩ => rfl
      | ⟨1, _⟩ => rfl
      | ⟨2, _⟩ => rfl
    rw [hsi, hm, word_toInt _ (by omega), Int.toNat_natCast]
    show min m.val (n - 1) = m.val
    omega
  · rw [GatherDims.batchCoord_eq_zero _ _ _ (fun h => by simp [along3Dims] at h)]
    have hs : (along3Dims a n k c wf).start (pt3 i j d) idx 2 = 0 := by
      unfold GatherDims.start
      rw [dif_neg (fun h => by simp [along3Dims] at h)]
    have ho : (along3Dims a n k c wf).offCoord (pt3 i j d) 2 = d.val := by
      unfold GatherDims.offCoord
      rw [dif_pos ((GatherDims.mem_sKept _ _).mpr ⟨fun h => by simp [along3Dims] at h, fun h => by simp [along3Dims] at h⟩)]
      rfl
    show (along3Dims a n k c wf).start (pt3 i j d) idx 2 + 0 + (along3Dims a n k c wf).offCoord (pt3 i j d) 2 = d.val
    rw [hs, ho]; simp

theorem rows_at {α : Type} {n b k : ℕ} (d : GatherDims ⟨2, ![n, b]⟩ ⟨2, ![k, 1]⟩ ⟨2, ![k, b]⟩) (hoff : d.offsetDims = [1])
    (hcoll : d.collapsedSliceDims = [0]) (hob : d.operandBatchingDims = []) (hsim : d.startIndexMap = [0]) (hivd : d.indexVectorDim = 1)
    (x : (⟨2, ![n, b]⟩ : Shape).Idx → α) (idx : IVec ⟨2, ![k, 1]⟩ 32) (i : Fin k) (y : Fin b) (m : Fin n) (hm : idx (pt2 i 0) = word m.val) (hn : n < 2 ^ 31) :
    Host.gather d x idx (pt2 i y) = x (pt2 m y) := by
  have e : ∀ {p q : ℕ} (u : Fin p) (v : Fin q), (ValueIdx.ix2 u v) = pt2 u v := fun u v => funext fun | ⟨0, _⟩ => rfl | ⟨1, _⟩ => rfl
  have h := Routing.gather_row d hoff hcoll hob hsim hivd x idx i y m (by rw [e]; exact hm) hn
  rw [e, e] at h
  exact h

end Cert.Order

end
-- ==== Proof.Val.Stretch.lean ====
/- The kernel's host operations between its launches, stretch by stretch: what each leaves in the arrays read later. -/
module

public import proofs.«01_k».proof.Proof.Run.Frame
public import proofs.«01_k».proof.Proof.Gen.ReferenceIdeal.Run

@[expose] public section

set_option maxRecDepth 16384

noncomputable section

namespace Cert.Host

open Idealize.ShloMosaic Cert.ReferenceIdeal Cert.ReferenceIdeal.Gen

variable {F : FTy → Type} [FloatOps F]

/-- Numbers counted from the end when negative, for `n` rows. -/
abbrev wrapped10 (n : BitVec 32) (w : IVec S1024x10x1 32) : IVec S1024x10x1 32 :=
  select (cmpi .slt w (broadcastInDim S1024x10x1 ![] bcast_S_S1024x10x1 (constantI S_ 32 0#32)))
    (addi w (broadcastInDim S1024x10x1 ![] bcast_S_S1024x10x1 (constantI S_ 32 n))) w

abbrev wrapped5 (n : BitVec 32) (w : IVec S1024x5x1 32) : IVec S1024x5x1 32 :=
  select (cmpi .slt w (broadcastInDim S1024x5x1 ![] bcast_S_S1024x5x1 (constantI S_ 32 0#32)))
    (addi w (broadcastInDim S1024x5x1 ![] bcast_S_S1024x5x1 (constantI S_ 32 n))) w

/-- Which numbers are in range. -/
abbrev checked10 (n : BitVec 32) (w : IVec S1024x10x1 32) : IVec S1024x10 1 :=
  Host.reduce IntOp.andi (andi (cmpi .sge w (broadcastInDim S1024x10x1 ![] bcast_S_S1024x10x1 (constantI S_ 32 0#32)))
    (cmpi .sle w (broadcastInDim S1024x10x1 ![0, 1, 2] bcast_S1x1x1_S1024x10x1_0_1_2 (broadcastInDim S1x1x1 ![2] bcast_S1_S1x1x1_2 (constantI S1 32 n)))))
    (constantI S_ 1 1#1) reducesTo_S1024x10x1_S1024x10_d2 h_S_

abbrev checked5 (n : BitVec 32) (w : IVec S1024x5x1 32) : IVec S1024x5 1 :=
  Host.reduce IntOp.andi (andi (cmpi .sge w (broadcastInDim S1024x5x1 ![] bcast_S_S1024x5x1 (constantI S_ 32 0#32)))
    (cmpi .sle w (broadcastInDim S1024x5x1 ![0, 1, 2] bcast_S1x1x1_S1024x5x1_0_1_2 (broadcastInDim S1x1x1 ![2] bcast_S1_S1x1x1_2 (constantI S1 32 n)))))
    (constantI S_ 1 1#1) reducesTo_S1024x5x1_S1024x5_d2 h_S_

abbrev third10 (i : IVec S1024x10 32) : IVec S1024x10x1 32 := broadcastInDim S1024x10x1 ![0, 1] bcast_S1024x10_S1024x10x1_0_1 i
abbrev third5 (i : IVec S1024x5 32) : IVec S1024x5x1 32 := broadcastInDim S1024x5x1 ![0, 1] bcast_S1024x5_S1024x5x1_0_1 i

/-- The first record: the chosen numbers and their ranks. -/
def recordA (n : IVec S1024x1000x1 32) : IVec S1024x1000x2 32 :=
  concatenate S1024x1000x2 2 [⟨S1024x1000x1, n⟩,
    ⟨S1024x1000x1, broadcastInDim S1024x1000x1 ![0, 1] bcast_S1024x1000_S1024x1000x1_0_1 (broadcastInDim S1024x1000 ![1] bcast_S1000_S1024x1000_1 (iotaInDim S1000 32 0))⟩]
    concatenates_S1024x1000x1_S1024x1000x1_S1024x1000x2_d2

/-- Records taken by number. -/
def takenB (r : IVec S1024x1000x2 32) (i : IVec S1024x10 32) : IVec S1024x10x2 32 :=
  select (broadcastInDim S1024x10x2 ![0, 1] bcast_S1024x10_S1024x10x2_0_1 (checked10 999#32 (wrapped10 1000#32 (third10 i))))
    (Host.gather gather_S1024x1000x2_S1024x10x1_S1024x10x2_2_1_0_0_1_2_112 r (wrapped10 1000#32 (third10 i)))
    (broadcastInDim S1024x10x2 ![] bcast_S_S1024x10x2 (constantI S_ 32 2147483648#32))

/-- The second record: rows taken of the first, and their ranks. -/
def recordB (t : IVec S1024x10x2 32) : IVec S1024x10x3 32 :=
  concatenate S1024x10x3 2 [⟨S1024x10x2, t⟩,
    ⟨S1024x10x1, broadcastInDim S1024x10x1 ![0, 1] bcast_S1024x10_S1024x10x1_0_1 (broadcastInDim S1024x10 ![1] bcast_S10_S1024x10_1 (iotaInDim S10 32 0))⟩]
    concatenates_S1024x10x2_S1024x10x1_S1024x10x3_d2

def takenC (r : IVec S1024x10x3 32) (i : IVec S1024x5 32) : IVec S1024x5x3 32 :=
  select (broadcastInDim S1024x5x3 ![0, 1] bcast_S1024x5_S1024x5x3_0_1 (checked5 9#32 (wrapped5 10#32 (third5 i))))
    (Host.gather gather_S1024x10x3_S1024x5x1_S1024x5x3_2_1_0_0_1_2_113 r (wrapped5 10#32 (third5 i)))
    (broadcastInDim S1024x5x3 ![] bcast_S_S1024x5x3 (constantI S_ 32 2147483648#32))

/-- The third. -/
def recordC (t : IVec S1024x5x3 32) : IVec S1024x5x4 32 :=
  concatenate S1024x5x4 2 [⟨S1024x5x3, t⟩,
    ⟨S1024x5x1, broadcastInDim S1024x5x1 ![0, 1] bcast_S1024x5_S1024x5x1_0_1 (broadcastInDim S1024x5 ![1] bcast_S5_S1024x5_1 (iotaInDim S5 32 0))⟩]
    concatenates_S1024x5x3_S1024x5x1_S1024x5x4_d2

/-- The chosen numbers a record starts with. -/
def firsts (r : IVec S1024x5x4 32) : IVec S1024x5 32 :=
  shapeCast _ (extractStridedSlice S1024x5x1 ![0, 0, 0] r slices_S1024x5x4_S1024x5x1_0_0_0) shapeCasts_S1024x5x1_S1024x5

/-- The last choice: the five most similar of ten. -/
def lastChoice (x : FVec F S1024x10x64 .f32) (a : FVec F S1024x64 .f32) : IVec S1024x5 32 :=
  (Host.topK S1024x5 1 (FloatOps.cmpfTotal .gt) (Host.dotGeneral dot_S1024x10x64_S1024x64_S1024x10_2_1_1_n_0_0 none x a) sliceFits_S1024x10_S1024x5).2

def ones : FVec F S1024x5 .f32 := broadcastInDim S1024x5 ![] bcast_S_S1024x5 (constant S_ .f32 0x3F800000#32)

end Cert.Host

namespace Cert.KernelIdeal.Net

open Idealize.ShloMosaic Idealize.ShloMosaic.TcCoe Idealize.ShloMosaic.StableHlo Cert.KernelIdeal Cert.KernelIdeal.Gen Cert.Host

variable {F : FTy → Type} [FloatOps F]

/-- A bank filled up with zeros. -/
def filled (x : FVec F S64x100000 .f32) : FVec F S64x100352 .f32 :=
  pad S64x100352 ![0, 0] ![0, 352] ![0, 0] x (sitofp .f32 (constantI S_ 32 0#32)) pads_S64x100000_S64x100352_000_03520 h_S_

/-- The similarities of the chosen columns. -/
def chosenSims (x : FVec F S1024x100352 .f32) (w : IVec S1024x1000 32) : FVec F S1024x1000 .f32 :=
  select (Host.reduce IntOp.andi (andi
      (cmpi .sge (shapeCast S1024x1000x1 (select (cmpi .slt w (broadcastInDim S1024x1000 ![] bcast_S_S1024x1000 (constantI S_ 32 0#32))) (addi w (broadcastInDim S1024x1000 ![] bcast_S_S1024x1000 (constantI S_ 32 100352#32))) w) shapeCasts_S1024x1000_S1024x1000x1)
        (broadcastInDim S1024x1000x1 ![] bcast_S_S1024x1000x1 (constantI S_ 32 0#32)))
      (cmpi .sle (shapeCast S1024x1000x1 (select (cmpi .slt w (broadcastInDim S1024x1000 ![] bcast_S_S1024x1000 (constantI S_ 32 0#32))) (addi w (broadcastInDim S1024x1000 ![] bcast_S_S1024x1000 (constantI S_ 32 100352#32))) w) shapeCasts_S1024x1000_S1024x1000x1)
        (broadcastInDim S1024x1000x1 ![0, 1, 2] bcast_S1x1x1_S1024x1000x1_0_1_2 (broadcastInDim S1x1x1 ![2] bcast_S1_S1x1x1_2 (constantI S1 32 100351#32)))))
      (constantI S_ 1 1#1) reducesTo_S1024x1000x1_S1024x1000_d2 h_S_)
    (Host.gather gather_S1024x100352_S1024x1000x1_S1024x1000_n_1_0_0_1_2_11 x
      (shapeCast S1024x1000x1 (select (cmpi .slt w (broadcastInDim S1024x1000 ![] bcast_S_S1024x1000 (constantI S_ 32 0#32))) (addi w (broadcastInDim S1024x1000 ![] bcast_S_S1024x1000 (constantI S_ 32 100352#32))) w) shapeCasts_S1024x1000_S1024x1000x1))
    (broadcastInDim S1024x1000 ![] bcast_S_S1024x1000 (constant S_ .f32 0x7FC00000#32))

/-- Those filled up with the least value. -/
def filledSims (x : FVec F S1024x1000 .f32) : FVec F S1024x1024 .f32 :=
  pad S1024x1024 ![0, 0] ![0, 24] ![0, 0] x (constant S_ .f32 0xFF800000#32) pads_S1024x1000_S1024x1024_000_0240 h_S_

/-- The numbers a record starts with, in one row. -/
def numbers (r : IVec S1024x10x3 32) : IVec S10240 32 :=
  shapeCast _ (shapeCast S1024x10 (extractStridedSlice S1024x10x1 ![0, 0, 0] r slices_S1024x10x3_S1024x10x1_0_0_0) shapeCasts_S1024x10x1_S1024x10) shapeCasts_S1024x10_S10240

/-- Those numbers' columns of a bank. -/
def columnsOf (X : FVec F S64x100000 .f32) (w : IVec S10240 32) : FVec F S10240x64 .f32 :=
  select (broadcastInDim S10240x64 ![0] bcast_S10240_S10240x64_0 (Host.reduce IntOp.andi (andi
      (cmpi .sge (broadcastInDim S10240x1 ![0] bcast_S10240_S10240x1_0 (select (cmpi .slt w (broadcastInDim S10240 ![] bcast_S_S10240 (constantI S_ 32 0#32))) (addi w (broadcastInDim S10240 ![] bcast_S_S10240 (constantI S_ 32 100000#32))) w))
        (broadcastInDim S10240x1 ![] bcast_S_S10240x1 (constantI S_ 32 0#32)))
      (cmpi .sle (broadcastInDim S10240x1 ![0] bcast_S10240_S10240x1_0 (select (cmpi .slt w (broadcastInDim S10240 ![] bcast_S_S10240 (constantI S_ 32 0#32))) (addi w (broadcastInDim S10240 ![] bcast_S_S10240 (constantI S_ 32 100000#32))) w))
        (broadcastInDim S10240x1 ![0, 1] bcast_S1x1_S10240x1_0_1 (broadcastInDim S1x1 ![1] bcast_S1_S1x1_1 (constantI S1 32 99999#32)))))
      (constantI S_ 1 1#1) reducesTo_S10240x1_S10240_d1 h_S_))
    (Host.gather gather_S100000x64_S10240x1_S10240x64_1_0_n_n_0_1_164 (transpose S100000x64 [1, 0] X transposes_S64x100000_S100000x64_1_0)
      (broadcastInDim S10240x1 ![0] bcast_S10240_S10240x1_0 (select (cmpi .slt w (broadcastInDim S10240 ![] bcast_S_S10240 (constantI S_ 32 0#32))) (addi w (broadcastInDim S10240 ![] bcast_S_S10240 (constantI S_ 32 100000#32))) w)))
    (broadcastInDim S10240x64 ![] bcast_S_S10240x64 (constant S_ .f32 0x7FC00000#32))

variable (V : Valuation τ sig (Elt F))

theorem at_v0 : after hostOps0_1 (after hostOps0 V) (Proc.devRef .tc main_v0) = filled (V (Proc.devRef .tc main_arg2)) := by
  simp only [hostOps0_1, hostOps0, TRef.binary, TRef.nullary, TRef.ternary, TRef.unary, TRef.reshape, TRef.toBuf, TRef.ofBuf, cast_eq]
  after_results_simp
  all_goals rfl

theorem at_v1 : after hostOps0_3 (after hostOps0_2 V) (Proc.devRef .tc main_v1) = filled (V (Proc.devRef .tc main_arg3)) := by
  simp only [hostOps0_3, hostOps0_2, TRef.binary, TRef.nullary, TRef.ternary, TRef.unary, TRef.reshape, TRef.toBuf, TRef.ofBuf, cast_eq]
  after_results_simp
  all_goals rfl

theorem at_v4 : after hostOps2 V (Proc.devRef .tc main_v4) = extractStridedSlice S1024x1000 ![0, 0] (V (Proc.devRef .tc main_v3)) slices_S1024x1024_S1024x1000_0_0 := by
  simp only [hostOps2, TRef.binary, TRef.nullary, TRef.ternary, TRef.unary, TRef.reshape, TRef.toBuf, TRef.ofBuf, cast_eq]
  after_results_simp
  all_goals rfl

theorem at_v9 : after hostOps2 V (Proc.devRef .tc main_v9) = recordA (broadcastInDim S1024x1000x1 ![0, 1] bcast_S1024x1000_S1024x1000x1_0_1
    (extractStridedSlice S1024x1000 ![0, 0] (V (Proc.devRef .tc main_v3)) slices_S1024x1024_S1024x1000_0_0)) := by
  simp only [hostOps2, TRef.binary, TRef.nullary, TRef.ternary, TRef.unary, TRef.reshape, TRef.toBuf, TRef.ofBuf, cast_eq]
  after_results_simp
  all_goals rfl

theorem at_v10 : after hostOps2_1 V (Proc.devRef .tc main_v10) = chosenSims (V (Proc.devRef .tc main_v2_1)) (V (Proc.devRef .tc main_v4)) := by
  simp only [hostOps2_1, TRef.binary, TRef.nullary, TRef.ternary, TRef.unary, TRef.reshape, TRef.toBuf, TRef.ofBuf, cast_eq]
  after_results_simp
  all_goals rfl

theorem at_v11 : after hostOps2_3 (after hostOps2_2 V) (Proc.devRef .tc main_v11) = filledSims (V (Proc.devRef .tc main_v10)) := by
  simp only [hostOps2_3, hostOps2_2, TRef.binary, TRef.nullary, TRef.ternary, TRef.unary, TRef.reshape, TRef.toBuf, TRef.ofBuf, cast_eq]
  after_results_simp
  all_goals rfl

theorem at_v14 : after hostOps3 V (Proc.devRef .tc main_v14) = third10 (extractStridedSlice S1024x10 ![0, 0] (V (Proc.devRef .tc main_v12)) slices_S1024x1024_S1024x10_0_0) := by
  simp only [hostOps3, TRef.binary, TRef.nullary, TRef.ternary, TRef.unary, TRef.reshape, TRef.toBuf, TRef.ofBuf, cast_eq]
  after_results_simp
  all_goals rfl

theorem at_v15 (i : IVec S1024x10 32) (h : V (Proc.devRef .tc main_v14) = third10 i) :
    after hostOps3_1 V (Proc.devRef .tc main_v15) = takenB (V (Proc.devRef .tc main_v9)) i := by
  simp only [hostOps3_1, TRef.binary, TRef.nullary, TRef.ternary, TRef.unary, TRef.reshape, TRef.toBuf, TRef.ofBuf, cast_eq]
  after_results_simp
  rw [h]
  all_goals rfl

theorem at_v19 :
    after hostOps3_2 V (Proc.devRef .tc main_v19) = recordB (V (Proc.devRef .tc main_v15)) := by
  simp only [hostOps3_2, TRef.binary, TRef.nullary, TRef.ternary, TRef.unary, TRef.reshape, TRef.toBuf, TRef.ofBuf, cast_eq]
  after_results_simp
  all_goals rfl

theorem at_v23 :
    after hostOps3_2 V (Proc.devRef .tc main_v23) = numbers (recordB (V (Proc.devRef .tc main_v15))) := by
  simp only [hostOps3_2, TRef.binary, TRef.nullary, TRef.ternary, TRef.unary, TRef.reshape, TRef.toBuf, TRef.ofBuf, cast_eq]
  after_results_simp
  all_goals rfl

theorem at_v22 : after hostOps3_2 V (Proc.devRef .tc main_v22) = transpose S100000x64 [1, 0] (V (Proc.devRef .tc main_arg2)) transposes_S64x100000_S100000x64_1_0 := by
  simp only [hostOps3_2, TRef.binary, TRef.nullary, TRef.ternary, TRef.unary, TRef.reshape, TRef.toBuf, TRef.ofBuf, cast_eq]
  after_results_simp
  all_goals rfl

theorem at_v24 (X : FVec F S64x100000 .f32) (h : V (Proc.devRef .tc main_v22) = transpose S100000x64 [1, 0] X transposes_S64x100000_S100000x64_1_0) :
    after hostOps3_3 V (Proc.devRef .tc main_v24) = columnsOf X (V (Proc.devRef .tc main_v23)) := by
  simp only [hostOps3_3, TRef.binary, TRef.nullary, TRef.ternary, TRef.unary, TRef.reshape, TRef.toBuf, TRef.ofBuf, cast_eq]
  after_results_simp
  rw [h]
  all_goals rfl

theorem at_v27 : after hostOps3_4 V (Proc.devRef .tc main_v27)
    = third5 (lastChoice (shapeCast _ (V (Proc.devRef .tc main_v24)) shapeCasts_S10240x64_S1024x10x64) (V (Proc.devRef .tc main_arg0))) := by
  simp only [hostOps3_4, TRef.binary, TRef.nullary, TRef.ternary, TRef.unary, TRef.reshape, TRef.toBuf, TRef.ofBuf, cast_eq]
  after_results_simp
  all_goals rfl

theorem at_v28 (i : IVec S1024x5 32) (h : V (Proc.devRef .tc main_v27) = third5 i) :
    after hostOps3_5 V (Proc.devRef .tc main_v28) = takenC (V (Proc.devRef .tc main_v19)) i := by
  simp only [hostOps3_5, TRef.binary, TRef.nullary, TRef.ternary, TRef.unary, TRef.reshape, TRef.toBuf, TRef.ofBuf, cast_eq]
  after_results_simp
  rw [h]
  all_goals rfl

theorem at_v32 :
    after hostOps3_6 V (Proc.devRef .tc main_v32) = recordC (V (Proc.devRef .tc main_v28)) := by
  simp only [hostOps3_6, TRef.binary, TRef.nullary, TRef.ternary, TRef.unary, TRef.reshape, TRef.toBuf, TRef.ofBuf, cast_eq]
  after_results_simp
  all_goals rfl

theorem at_v34 :
    after hostOps3_6 V (Proc.devRef .tc main_v34) = firsts (recordC (V (Proc.devRef .tc main_v28))) := by
  simp only [hostOps3_6, TRef.binary, TRef.nullary, TRef.ternary, TRef.unary, TRef.reshape, TRef.toBuf, TRef.ofBuf, cast_eq]
  after_results_simp
  all_goals rfl

theorem at_v35 : after hostOps3_6 V (Proc.devRef .tc main_v35) = ones := by
  simp only [hostOps3_6, TRef.binary, TRef.nullary, TRef.ternary, TRef.unary, TRef.reshape, TRef.toBuf, TRef.ofBuf, cast_eq]
  after_results_simp
  all_goals rfl

end Cert.KernelIdeal.Net

end
-- ==== Proof.Val.RefRead.lean ====
/- The reference's values read element by element: its similarities, the numbers it chooses and the columns it takes by them. -/
module

public import proofs.«01_k».proof.Proof.Gen.ReferenceIdeal.Run
public import proofs.«01_k».proof.Proof.Val.Take
public import proofs.«01_k».proof.Proof.Val.Stretch
public import Idealize.ShloMosaic.Lib.Pipeline.ValueKit

@[expose] public section

set_option maxRecDepth 16384

noncomputable section

namespace Cert.ReferenceIdeal.Value

open Idealize.ShloMosaic Idealize.ShloMosaic.TcCoe Idealize.ShloMosaic.StableHlo Cert.ReferenceIdeal Cert.ReferenceIdeal.Gen Cert.Order Cert.Host

/-! ## Products -/

theorem dot_bank (x : FVec Ideal S1024x64 .f32) (y : FVec Ideal S100000x64 .f32) (b : Fin 1024) (k : Fin 100000) :
    Host.dotGeneral dot_S1024x64_S100000x64_S1024x100000_1_1_0_0_n_n none x y (pt2 b k) = ∑ d : Fin 64, x (pt2 b d) * y (pt2 k d) := by
  pointwise []
  rfl

theorem dot_rows (x : FVec Ideal S1024x1000x64 .f32) (y : FVec Ideal S1024x64 .f32) (b : Fin 1024) (k : Fin 1000) :
    Host.dotGeneral dot_S1024x1000x64_S1024x64_S1024x1000_2_1_1_n_0_0 none x y (pt2 b k) = ∑ d : Fin 64, x (pt3 b k d) * y (pt2 b d) := by
  pointwise []
  rfl

theorem transposed_at (X : FVec Ideal S64x100000 .f32) (c : Fin 100000) (d : Fin 64) :
    transpose S100000x64 [1, 0] X transposes_S64x100000_S100000x64_1_0 (pt2 c d) = X (pt2 d c) := by
  refine congrArg X (funext fun b => ?_)
  match b with
  | ⟨0, _⟩ => rfl
  | ⟨1, _⟩ => rfl

/-! ## Numbers in one row -/

theorem flat_at {α : Type} (x : S1024x1000.Idx → α) (i : Fin 1024) (k : Fin 1000) :
    shapeCast S1024000 x shapeCasts_S1024x1000_S1024000 (pt1 ⟨i.val * 1000 + k.val, by omega⟩) = x (pt2 i k) := by
  refine shapeCast_apply x _ _ _ ?_
  exact (rm2 i k).trans (rm1 (⟨i.val * 1000 + k.val, by omega⟩ : Fin 1024000)).symm

theorem rows_folded {α : Type} (x : S1024000x64.Idx → α) (i : Fin 1024) (k : Fin 1000) (d : Fin 64) :
    shapeCast S1024x1000x64 x shapeCasts_S1024000x64_S1024x1000x64 (pt3 i k d) = x (pt2 ⟨i.val * 1000 + k.val, by omega⟩ d) := by
  refine shapeCast_apply x _ _ _ ?_
  refine (rm2 (⟨i.val * 1000 + k.val, by omega⟩ : Fin 1024000) d).trans (Eq.trans ?_ (rm3 i k d).symm)
  show (i.val * 1000 + k.val) * 64 + d.val = i.val * (1000 * 64) + k.val * 64 + d.val
  omega

theorem cells_folded {α : Type} (x : S1024000x1.Idx → α) (i : Fin 1024) (k : Fin 1000) (d : Fin 1) :
    shapeCast S1024x1000x1 x shapeCasts_S1024000x1_S1024x1000x1 (pt3 i k d) = x (pt2 ⟨i.val * 1000 + k.val, by omega⟩ d) := by
  refine shapeCast_apply x _ _ _ ?_
  refine (rm2 (⟨i.val * 1000 + k.val, by omega⟩ : Fin 1024000) d).trans (Eq.trans ?_ (rm3 i k d).symm)
  show (i.val * 1000 + k.val) * 1 + d.val = i.val * (1000 * 1) + k.val * 1 + d.val
  omega

/-- Numbers below the bank's width, one row of them, as a column and counted from the end when negative: still themselves. -/
theorem column_words (w : IVec S1024x1000 32) (n : Fin 1024 → Fin 1000 → Fin 100000) (hw : ∀ i k, w (pt2 i k) = word (n i k).val) (i : Fin 1024) (k : Fin 1000) :
    (broadcastInDim S1024000x1 ![0] bcast_S1024000_S1024000x1_0
      (select (cmpi .slt (shapeCast S1024000 w shapeCasts_S1024x1000_S1024000) (broadcastInDim S1024000 ![] bcast_S_S1024000 (constantI S_ 32 0#32)))
        (addi (shapeCast S1024000 w shapeCasts_S1024x1000_S1024000) (broadcastInDim S1024000 ![] bcast_S_S1024000 (constantI S_ 32 100000#32)))
        (shapeCast S1024000 w shapeCasts_S1024x1000_S1024000))) (pt2 ⟨i.val * 1000 + k.val, by omega⟩ 0) = word (n i k).val := by
  rw [wrap_word]
  · rw [← hw i k, ← flat_at w i k]
    refine congrArg (shapeCast S1024000 w shapeCasts_S1024x1000_S1024000) (funext fun b => ?_)
    match b with
    | ⟨0, _⟩ => rfl
  · intro j; rfl
  · intro j
    have hj : (j 0).val < 1024000 := (j 0).isLt
    have e : j = pt1 ⟨(⟨(j 0).val / 1000, by omega⟩ : Fin 1024).val * 1000 + (⟨(j 0).val % 1000, by omega⟩ : Fin 1000).val, by show (j 0).val / 1000 * 1000 + (j 0).val % 1000 < 1024000; omega⟩ := by
      refine funext fun b => ?_
      match b with
      | ⟨0, _⟩ => exact Fin.ext (by show (j 0).val = (j 0).val / 1000 * 1000 + (j 0).val % 1000; omega)
    rw [e, flat_at, hw]
    exact ⟨_, lt_trans (Fin.isLt _) (by decide), rfl⟩

variable (V0 : Valuation τ sig (Elt Ideal))

/-- The arguments' contents. -/
abbrev A0 : S1024x64.Idx → EReal := V0 (Proc.devRef .tc main_arg0)
abbrev A1 : S1024x64.Idx → EReal := V0 (Proc.devRef .tc main_arg1)
abbrev A2 : S64x100000.Idx → EReal := V0 (Proc.devRef .tc main_arg2)
abbrev A3 : S64x100000.Idx → EReal := V0 (Proc.devRef .tc main_arg3)
abbrev A4 : S100000x1.Idx → BitVec 32 := V0 (Proc.devRef .tc main_arg4)
abbrev A5 : S1024x100000.Idx → BitVec 1 := V0 (Proc.devRef .tc main_arg5)

/-- The number of a row's `k`-th choice among the bank's columns; then among the thousand chosen. -/
def first (i : Fin 1024) (k : Fin 1000) : Fin 100000 :=
  sortedFrom (before fun c => (res_main_v3 V0 : S1024x100000.Idx → EReal) (pt2 i c)) ⟨k.val, lt_of_lt_of_le k.isLt (by decide)⟩

def second (i : Fin 1024) (k : Fin 10) : Fin 1000 :=
  sortedFrom (before fun c => (res_main_v35 V0 : S1024x1000.Idx → EReal) (pt2 i c)) ⟨k.val, lt_of_lt_of_le k.isLt (by decide)⟩

theorem indices_at (i : Fin 1024) (k : Fin 1000) : (res_main_indices V0 : S1024x1000.Idx → BitVec 32) (pt2 i k) = word (first V0 i k).val :=
  topK_at (by decide) (res_main_v3 V0) _ i k

theorem indices6_at (i : Fin 1024) (k : Fin 10) : (res_main_indices_6 V0 : S1024x10.Idx → BitVec 32) (pt2 i k) = word (second V0 i k).val :=
  topK_at (by decide) (res_main_v35 V0) _ i k

theorem sims_at (h5 : ∀ j, A5 V0 j = 0#1) (i : Fin 1024) (c : Fin 100000) :
    (res_main_v3 V0 : S1024x100000.Idx → EReal) (pt2 i c) = ∑ d : Fin 64, A0 V0 (pt2 i d) * A2 V0 (pt2 d c) := by
  unfold res_main_v3 res_main_v0
  show Scalar.select (A5 V0 (pt2 i c)) _ _ = _
  rw [h5]
  refine (dot_bank _ _ i c).trans (Finset.sum_congr rfl fun d _ => ?_)
  rw [transposed_at]

theorem aux_at (i : Fin 1024) (k : Fin 1000) (d : Fin 64) :
    (res_main_v12 V0 : S1024x1000x64.Idx → EReal) (pt3 i k d) = A3 V0 (pt2 d (first V0 i k)) := by
  unfold res_main_v12
  refine (rows_folded _ i k d).trans ?_
  refine (rows_at gather_S100000x64_S1024000x1_S1024000x64_1_0_n_n_0_1_164 rfl rfl rfl rfl rfl _ _ _ d (first V0 i k) ?_ (by decide)).trans (transposed_at _ _ _)
  exact column_words (res_main_indices V0) (first V0) (indices_at V0) i k

theorem sims35_at (i : Fin 1024) (k : Fin 1000) :
    (res_main_v35 V0 : S1024x1000.Idx → EReal) (pt2 i k) = ∑ d : Fin 64, A3 V0 (pt2 d (first V0 i k)) * A1 V0 (pt2 i d) := by
  unfold res_main_v35
  refine (dot_rows _ _ i k).trans (Finset.sum_congr rfl fun d _ => ?_)
  rw [aux_at]

/-- The chosen columns of the main bank. -/
def mainRows : FVec Ideal S1024x1000x64 .f32 :=
  shapeCast _ (Host.gather gather_S100000x64_S1024000x1_S1024000x64_1_0_n_n_0_1_164 (res_main_v0 V0) (broadcastInDim S1024000x1 ![0] bcast_S1024000_S1024000x1_0 (select (cmpi .slt (res_main_v13 V0) (broadcastInDim S1024000 ![] bcast_S_S1024000 (constantI S_ 32 0#32))) (addi (res_main_v13 V0) (broadcastInDim S1024000 ![] bcast_S_S1024000 (constantI S_ 32 100000#32))) (res_main_v13 V0)))) shapeCasts_S1024000x64_S1024x1000x64

theorem mainRows_at (i : Fin 1024) (k : Fin 1000) (d : Fin 64) : mainRows V0 (pt3 i k d) = A2 V0 (pt2 d (first V0 i k)) := by
  unfold mainRows
  refine (rows_folded _ i k d).trans ?_
  refine (rows_at gather_S100000x64_S1024000x1_S1024000x64_1_0_n_n_0_1_164 rfl rfl rfl rfl rfl _ _ _ d (first V0 i k) ?_ (by decide)).trans (transposed_at _ _ _)
  exact column_words (res_main_indices V0) (first V0) (indices_at V0) i k

/-- The first record's numbers. -/
def recorded : IVec S1024x1000x1 32 :=
  shapeCast _ (Host.gather gather_S100000x1_S1024000x1_S1024000x1_1_0_n_n_0_1_11 (V0 (Proc.devRef .tc main_arg4)) (broadcastInDim S1024000x1 ![0] bcast_S1024000_S1024000x1_0 (select (cmpi .slt (res_main_v22 V0) (broadcastInDim S1024000 ![] bcast_S_S1024000 (constantI S_ 32 0#32))) (addi (res_main_v22 V0) (broadcastInDim S1024000 ![] bcast_S_S1024000 (constantI S_ 32 100000#32))) (res_main_v22 V0)))) shapeCasts_S1024000x1_S1024x1000x1

theorem recorded_at (h4 : ∀ j : S100000x1.Idx, A4 V0 j = word (j 0).val) (i : Fin 1024) (k : Fin 1000) (d : Fin 1) :
    recorded V0 (pt3 i k d) = word (first V0 i k).val := by
  unfold recorded
  refine (cells_folded _ i k d).trans ?_
  refine (rows_at gather_S100000x1_S1024000x1_S1024000x1_1_0_n_n_0_1_11 rfl rfl rfl rfl rfl _ _ _ d (first V0 i k) ?_ (by decide)).trans (h4 _)
  exact column_words (res_main_indices V0) (first V0) (indices_at V0) i k

/-! ## Rows taken of the chosen -/

theorem third10_words (w : IVec S1024x10 32) (n : Fin 1024 → Fin 10 → Fin 1000) (hw : ∀ i k, w (pt2 i k) = word (n i k).val) (j : S1024x10x1.Idx) :
    third10 w j = word (n (j 0) (j 1)).val := by
  refine Eq.trans ?_ (hw (j 0) (j 1))
  refine congrArg w (funext fun b => ?_)
  match b with
  | ⟨0, _⟩ => rfl
  | ⟨1, _⟩ => rfl

theorem wrapped10_words (w : IVec S1024x10 32) (n : Fin 1024 → Fin 10 → Fin 1000) (hw : ∀ i k, w (pt2 i k) = word (n i k).val) :
    wrapped10 1000#32 (third10 w) = third10 w :=
  wrap_word _ _ _ (fun _ => rfl) fun j => ⟨_, lt_trans (Fin.isLt _) (by decide), third10_words w n hw j⟩

theorem checked10_words (w : IVec S1024x10 32) (n : Fin 1024 → Fin 10 → Fin 1000) (hw : ∀ i k, w (pt2 i k) = word (n i k).val) (j : S1024x10.Idx) :
    checked10 999#32 (third10 w) j = 1#1 :=
  check_all 999 (by decide) _ _ _ _ _ _ (fun _ => rfl) (fun _ => rfl) (fun _ => rfl)
    (fun j => ⟨_, Nat.lt_succ_iff.mp (Fin.isLt (n (j 0) (j 1))), third10_words w n hw j⟩) j

/-- Rows of ten numbers' choice. -/
def tenRows (x : FVec Ideal S1024x1000x64 .f32) (w : IVec S1024x10 32) : FVec Ideal S1024x10x64 .f32 :=
  select (broadcastInDim S1024x10x64 ![0, 1] bcast_S1024x10_S1024x10x64_0_1 (checked10 999#32 (wrapped10 1000#32 (third10 w))))
    (Host.gather gather_S1024x1000x64_S1024x10x1_S1024x10x64_2_1_0_0_1_2_1164 x (wrapped10 1000#32 (third10 w)))
    (broadcastInDim S1024x10x64 ![] bcast_S_S1024x10x64 (constant S_ .f32 0x7FC00000#32))

theorem tenRows_at (x : FVec Ideal S1024x1000x64 .f32) (w : IVec S1024x10 32) (n : Fin 1024 → Fin 10 → Fin 1000) (hw : ∀ i k, w (pt2 i k) = word (n i k).val)
    (i : Fin 1024) (k : Fin 10) (d : Fin 64) : tenRows x w (pt3 i k d) = x (pt3 i (n i k) d) := by
  unfold tenRows
  rw [wrapped10_words w n hw]
  refine (congrFun (select_all _ _ _ fun j => checked10_words w n hw _) _).trans ?_
  exact along3_at gather_S1024x1000x64_S1024x10x1_S1024x10x64_2_1_0_0_1_2_1164.wf x (third10 w) i k d (n i k) (third10_words w n hw _) (by decide)

theorem takenB_at (r : IVec S1024x1000x2 32) (w : IVec S1024x10 32) (n : Fin 1024 → Fin 10 → Fin 1000) (hw : ∀ i k, w (pt2 i k) = word (n i k).val)
    (i : Fin 1024) (k : Fin 10) (d : Fin 2) : takenB r w (pt3 i k d) = r (pt3 i (n i k) d) := by
  unfold takenB
  rw [wrapped10_words w n hw]
  refine (congrFun (select_all _ _ _ fun j => checked10_words w n hw _) _).trans ?_
  exact along3_at gather_S1024x1000x2_S1024x10x1_S1024x10x2_2_1_0_0_1_2_112.wf r (third10 w) i k d (n i k) (third10_words w n hw _) (by decide)

end Cert.ReferenceIdeal.Value

end
-- ==== Proof.Val.Link.lean ====
/- The kernels' compare-exchange stages, read row by row over the extended reals, are a sorting network on entries: one stage is the
   network's stage at its distance and block size, the running list's update is "the greatest 1024 of the list and the chunk". -/
module

public import proofs.«01_k».proof.Proof.Run.Net
public import proofs.«01_k».proof.Proof.Val.Order
public import Idealize.ShloMosaic.Lib.Pipeline.Value

@[expose] public section

set_option maxRecDepth 16384

noncomputable section

namespace Cert.KernelIdeal.Net

open Idealize.ShloMosaic Idealize.ShloMosaic.SortNet Cert.KernelIdeal Cert.KernelIdeal.Gen Cert.Order

/-- The place of row `q` whose number is `p`. -/
def at3 (q : Fin 64) (p : Fin (2 ^ 10)) : S64x8x128.Idx
  | ⟨0, _⟩ => q
  | ⟨1, _⟩ => ⟨p.val / 128, Nat.div_lt_of_lt_mul p.isLt⟩
  | ⟨2, _⟩ => ⟨p.val % 128, Nat.mod_lt _ (by decide)⟩

theorem lane_at (q : Fin 64) (p : Fin (2 ^ 10)) : lane (at3 q p) = BitVec.ofNat 32 (p.val % 128) := by
  show BitVec.ofNat 32 (0 * 128 + p.val % 128) = _
  rw [Nat.zero_mul, Nat.zero_add]

theorem sub_at (q : Fin 64) (p : Fin (2 ^ 10)) : sub (at3 q p) = BitVec.ofNat 32 (p.val / 128) := by
  show BitVec.ofNat 32 (0 * 8 + p.val / 128) = _
  rw [Nat.zero_mul, Nat.zero_add]

theorem wrap_apply (w : IVec S64x8x128 32) (n : BitVec 32) (j : S64x8x128.Idx) :
    wrap w n j = Scalar.select (Scalar.cmpi .slt (w j) 0#32) (w j + n) (w j) := by
  unfold wrap
  rw [shapeCast_shapeCast]
  rfl

/-- The partner's place. -/
def flip (v : ℕ) (hv : v < 2 ^ 10) (p : Fin (2 ^ 10)) : Fin (2 ^ 10) := ⟨p.val ^^^ v, Nat.xor_lt_two_pow p.isLt hv⟩

theorem lane_index : ∀ a b : Fin 128, (Scalar.select (Scalar.cmpi .slt (BitVec.ofNat 32 a.val ^^^ BitVec.ofNat 32 b.val) 0#32)
      ((BitVec.ofNat 32 a.val ^^^ BitVec.ofNat 32 b.val) + 128#32) (BitVec.ofNat 32 a.val ^^^ BitVec.ofNat 32 b.val)).toNat % 128 = (a.val ^^^ b.val) := by
  decide +kernel

theorem sub_index : ∀ a b : Fin 8, (Scalar.select (Scalar.cmpi .slt (BitVec.ofNat 32 a.val ^^^ BitVec.ofNat 32 b.val) 0#32)
      ((BitVec.ofNat 32 a.val ^^^ BitVec.ofNat 32 b.val) + 8#32) (BitVec.ofNat 32 a.val ^^^ BitVec.ofNat 32 b.val)).toNat % 8 = (a.val ^^^ b.val) := by
  decide +kernel

theorem xg_at {α : Type} (v : ℕ) (hv : v < 2 ^ 10) (h : v < 128 ∨ v % 128 = 0) (x : S64x8x128.Idx → α) (q : Fin 64) (p : Fin (2 ^ 10)) :
    xg v x (at3 q p) = x (at3 q (flip v hv p)) := by
  have hd : (p.val ^^^ v) / 128 = p.val / 128 ^^^ v / 128 := Nat.xor_div_two_pow (n := 7)
  have hm : (p.val ^^^ v) % 128 = p.val % 128 ^^^ v % 128 := Nat.xor_mod_two_pow (n := 7)
  unfold xg
  split
  · rename_i hlt
    refine congrArg x (funext fun b => ?_)
    match b with
    | ⟨0, _⟩ => rfl
    | ⟨1, _⟩ =>
      apply Fin.ext
      show p.val / 128 = (p.val ^^^ v) / 128
      rw [hd, Nat.div_eq_of_lt hlt, Nat.xor_zero]
    | ⟨2, _⟩ =>
      apply Fin.ext
      show (wrap _ _ (at3 q p)).toNat % 128 = (p.val ^^^ v) % 128
      rw [wrap_apply]
      show (Scalar.select (Scalar.cmpi .slt (lane (at3 q p) ^^^ BitVec.ofNat 32 v) 0#32) ((lane (at3 q p) ^^^ BitVec.ofNat 32 v) + 128#32)
        (lane (at3 q p) ^^^ BitVec.ofNat 32 v)).toNat % 128 = _
      rw [lane_at, hm, Nat.mod_eq_of_lt hlt]
      exact lane_index ⟨p.val % 128, Nat.mod_lt _ (by decide)⟩ ⟨v, hlt⟩
  · rename_i hlt
    have h0 : v % 128 = 0 := h.resolve_left hlt
    refine congrArg x (funext fun b => ?_)
    match b with
    | ⟨0, _⟩ => rfl
    | ⟨1, _⟩ =>
      apply Fin.ext
      show (wrap _ _ (at3 q p)).toNat % 8 = (p.val ^^^ v) / 128
      rw [wrap_apply]
      show (Scalar.select (Scalar.cmpi .slt (sub (at3 q p) ^^^ BitVec.ofNat 32 (v / 128)) 0#32) ((sub (at3 q p) ^^^ BitVec.ofNat 32 (v / 128)) + 8#32)
        (sub (at3 q p) ^^^ BitVec.ofNat 32 (v / 128))).toNat % 8 = _
      rw [sub_at, hd]
      exact sub_index ⟨p.val / 128, Nat.div_lt_of_lt_mul p.isLt⟩ ⟨v / 128, Nat.div_lt_of_lt_mul hv⟩
    | ⟨2, _⟩ =>
      apply Fin.ext
      show p.val % 128 = (p.val ^^^ v) % 128
      rw [hm, h0, Nat.xor_zero]

theorem clear_lane : ∀ s : Fin 7, ∀ p : Fin (2 ^ 10),
    IntOp.xori (Scalar.cmpi .ne (BitVec.ofNat 32 (p.val % 128) &&& BitVec.ofNat 32 (2 ^ s.val)) 0#32) 1#1 = BitVec.ofBool (decide (p.val &&& 2 ^ s.val = 0)) := by
  decide +kernel

theorem clear_sub : ∀ s : Fin 4, ∀ p : Fin (2 ^ 10),
    IntOp.xori (Scalar.cmpi .ne (BitVec.ofNat 32 (p.val / 128) &&& BitVec.ofNat 32 (2 ^ (s.val + 7) / 128)) 0#32) 1#1 = BitVec.ofBool (decide (p.val &&& 2 ^ (s.val + 7) = 0)) := by
  decide +kernel

theorem clear_at (s : ℕ) (hs : s ≤ 10) (q : Fin 64) (p : Fin (2 ^ 10)) :
    clear (2 ^ s) (at3 q p) = BitVec.ofBool (decide (p.val &&& 2 ^ s = 0)) := by
  unfold clear
  split
  · rename_i h
    have h7 : s < 7 := (Nat.pow_lt_pow_iff_right (by decide : 1 < 2)).mp (h : 2 ^ s < 2 ^ 7)
    rw [← clear_lane ⟨s, h7⟩ p, ← lane_at q p]
    rfl
  · rename_i h
    have h7 : 7 ≤ s := by
      by_contra h7
      exact h (Nat.pow_lt_pow_right (by decide) (by omega : s < 7))
    obtain ⟨u, rfl⟩ := Nat.exists_eq_add_of_le' h7
    rw [← clear_sub ⟨u, by omega⟩ p, ← sub_at q p]
    rfl

/-- The entry a place holds. -/
def ent (s : Pairs Ideal) (j : S64x8x128.Idx) : Entry := entry (s.v j) (s.i j).toInt

/-- A row's entries. -/
def ents (s : Pairs Ideal) (q : Fin 64) (p : Fin (2 ^ 10)) : Entry := ent s (at3 q p)

theorem wins_apply (x : FVec Ideal S64x8x128 .f32) (n : IVec S64x8x128 32) (y : FVec Ideal S64x8x128 .f32) (m : IVec S64x8x128 32)
    (j : S64x8x128.Idx) : wins x n y m j = BitVec.ofBool (decide (entry (y j) (m j).toInt < entry (x j) (n j).toInt)) := by
  have e : wins x n y m j = BitVec.ofBool (decide ((y j : EReal) < x j)) ||| (BitVec.ofBool (decide ((x j : EReal) = y j)) &&& BitVec.ofBool ((n j).slt (m j))) := rfl
  rw [e, BitVec.slt_eq_decide]
  simp only [entry_lt]
  by_cases h1 : (y j : EReal) < x j
  · simp only [h1, decide_true, true_or, BitVec.ofBool_true]
    generalize BitVec.ofBool (decide ((x j : EReal) = y j)) &&& BitVec.ofBool (decide ((n j).toInt < (m j).toInt)) = b
    revert b
    decide
  · by_cases h2 : (x j : EReal) = y j
    · by_cases h3 : (n j).toInt < (m j).toInt <;> simp [h2, h3]
    · have h2' : ¬ (y j : EReal) = x j := fun h => h2 h.symm
      simp [h1, h2, h2']

theorem keep_bit : ∀ a b c : Bool, IntOp.xori (IntOp.xori (IntOp.xori (IntOp.xori (BitVec.ofBool a) (BitVec.ofBool b)) 1#1) (BitVec.ofBool c)) 1#1
    = BitVec.ofBool (c == (a == b)) := by decide

/-- ONE STAGE IS THE NETWORK'S. -/
theorem ents_stage (s k : ℕ) (hs : s < 10) (hk : k ≤ 10) (hsk : s < k) (a : Pairs Ideal) (q : Fin 64) :
    ents (Net.stage (2 ^ s) (2 ^ k) a) q = Network.apply (net 10 (s, k)) (ents a q) := by
  have hlt : 2 ^ s < 2 ^ 10 := Nat.pow_lt_pow_right (by decide) hs
  have h128 : 2 ^ s < 128 ∨ 2 ^ s % 128 = 0 := by
    by_cases h : s < 7
    · exact .inl (Nat.pow_lt_pow_right (by decide) h)
    · obtain ⟨u, rfl⟩ := Nat.exists_eq_add_of_le' (not_lt.mp h)
      exact .inr (by rw [Nat.pow_add]; exact Nat.mul_mod_left _ _)
  have hnet : net 10 (s, k) = SortNet.stage 10 s fun i => (decide (i.val &&& 2 ^ k = 0) == decide (i.val &&& 2 ^ s = 0)) :=
    stage_congr fun i hi => by simp [hi]
  have hfl : ∀ p, flip (2 ^ s) hlt p = partner 10 s p := fun p => Fin.ext (partner_val hs p).symm
  funext p
  rw [hnet, apply_stage_select hs]
  · have hw : ∀ (c : IVec S64x8x128 1) (b : Bool), c (at3 q p) = BitVec.ofBool b →
        ent ⟨select c a.v (xg (2 ^ s) a.v), select c a.i (xg (2 ^ s) a.i)⟩ (at3 q p) = if b then ents a q p else ents a q (partner 10 s p) := by
      intro c b hc
      have h1 : ent ⟨select c a.v (xg (2 ^ s) a.v), select c a.i (xg (2 ^ s) a.i)⟩ (at3 q p)
        = entry (Scalar.select (c (at3 q p)) (a.v (at3 q p)) (xg (2 ^ s) a.v (at3 q p))) (Scalar.select (c (at3 q p)) (a.i (at3 q p)) (xg (2 ^ s) a.i (at3 q p))).toInt := rfl
      rw [h1, hc, xg_at _ hlt h128, xg_at _ hlt h128, hfl]
      cases b <;> rfl
    have hc := hw (xori (xori (xori (xori (clear (2 ^ k)) (clear (2 ^ s))) (constantI S64x8x128 1 1#1)) (wins a.v a.i (xg (2 ^ s) a.v) (xg (2 ^ s) a.i)))
      (constantI S64x8x128 1 1#1)) _ (show IntOp.xori (IntOp.xori (IntOp.xori (IntOp.xori (clear (2 ^ k) (at3 q p)) (clear (2 ^ s) (at3 q p))) 1#1)
        (wins a.v a.i (xg (2 ^ s) a.v) (xg (2 ^ s) a.i) (at3 q p))) 1#1 = _ by
          rw [clear_at k hk, clear_at s (le_of_lt hs), wins_apply, keep_bit])
    refine hc.trans ?_
    rw [xg_at _ hlt h128, xg_at _ hlt h128, hfl]
    simp only [beq_iff_eq]
    rfl
  · intro j
    have hkk : decide ((partner 10 s j).val &&& 2 ^ k = 0) = decide (j.val &&& 2 ^ k = 0) := by
      have : (partner 10 s j).val.testBit k = j.val.testBit k := by
        rw [partner_val hs, Nat.testBit_xor, Nat.testBit_two_pow, decide_eq_false (by omega), Bool.xor_false]
      exact decide_eq_decide.mpr (by rw [and_two_pow_eq_zero_iff_testBit, and_two_pow_eq_zero_iff_testBit, this])
    have hss : decide ((partner 10 s j).val &&& 2 ^ s = 0) = !decide (j.val &&& 2 ^ s = 0) := by
      have : (partner 10 s j).val.testBit s = !j.val.testBit s := by
        rw [partner_val hs, Nat.testBit_xor, Nat.testBit_two_pow, decide_eq_true rfl, Bool.xor_true]
      rw [← decide_not]
      exact decide_eq_decide.mpr (by rw [and_two_pow_eq_zero_iff_testBit, and_two_pow_eq_zero_iff_testBit, this]; simp)
    rw [hkk, hss]
    cases decide (j.val &&& 2 ^ k = 0) <;> cases decide (j.val &&& 2 ^ s = 0) <;> rfl

/-- A run of stages is the network of theirs. -/
theorem ents_stages (l : List (ℕ × ℕ)) (hl : ∀ e ∈ l, e.1 < 10 ∧ e.2 ≤ 10 ∧ e.1 < e.2) (a : Pairs Ideal) (q : Fin 64) :
    ents (stages (l.map fun e => (2 ^ e.1, 2 ^ e.2)) a) q = Network.apply (l.flatMap (net 10)) (ents a q) := by
  induction l generalizing a with
  | nil => rfl
  | cons e l ih =>
    have he := hl e List.mem_cons_self
    rw [List.flatMap_cons, Network.apply_append, ← ents_stage e.1 e.2 he.1 he.2.1 he.2.2]
    exact ih (fun e h => hl e (List.mem_cons_of_mem _ h)) _

theorem ents_sort (a : Pairs Ideal) (q : Fin 64) : ents (stages sortL a) q = Network.apply (sortNet 10 true) (ents a q) := by
  rw [sortNet_eq, ← ents_stages _ (by decide)]
  rfl

theorem ents_merge (a : Pairs Ideal) (q : Fin 64) : ents (stages mergeL a) q = Network.apply (mergeDescNet 10) (ents a q) := by
  rw [mergeNet_eq, ← ents_stages _ (by decide)]
  rfl

theorem rev_flip (p : Fin (2 ^ 10)) : flip 127 (by decide) (flip 896 (by decide) p) = Fin.rev p := by
  revert p
  decide +kernel

theorem ents_better (l s : Pairs Ideal) (q : Fin 64) : ents (better l s) q = fun p => max (ents l q p) (ents s q (Fin.rev p)) := by
  have hx : ∀ {α : Type} (x : S64x8x128.Idx → α) (p : Fin (2 ^ 10)), xg 896 (xg 127 x) (at3 q p) = x (at3 q (Fin.rev p)) := fun x p => by
    rw [xg_at 896 (by decide) (.inr rfl), xg_at 127 (by decide) (.inl (by decide)), rev_flip]
  funext p
  have h1 : ents (better l s) q p = entry (Scalar.select (wins l.v l.i (xg 896 (xg 127 s.v)) (xg 896 (xg 127 s.i)) (at3 q p)) (l.v (at3 q p)) (xg 896 (xg 127 s.v) (at3 q p)))
    (Scalar.select (wins l.v l.i (xg 896 (xg 127 s.v)) (xg 896 (xg 127 s.i)) (at3 q p)) (l.i (at3 q p)) (xg 896 (xg 127 s.i) (at3 q p))).toInt := rfl
  rw [h1, wins_apply, hx, hx]
  by_cases h : ents s q (Fin.rev p) < ents l q p
  · rw [max_eq_left (le_of_lt h), decide_eq_true (show entry (s.v (at3 q (Fin.rev p))) (s.i (at3 q (Fin.rev p))).toInt < entry (l.v (at3 q p)) (l.i (at3 q p)).toInt from h)]
    rfl
  · rw [max_eq_right (not_lt.mp h), decide_eq_false (show ¬ entry (s.v (at3 q (Fin.rev p))) (s.i (at3 q (Fin.rev p))).toInt < entry (l.v (at3 q p)) (l.i (at3 q p)).toInt from h)]
    rfl

/-- THE LIST'S UPDATE: descending, and the greatest 1024 of the old list and the chunk. -/
theorem ents_step (c : BitVec 32) (x : FVec Ideal S64x1024 .f32) (l : Pairs Ideal) (q : Fin 64) (hl : Antitone (ents l q)) :
    Antitone (ents (step c x l) q) ∧
      List.ofFn (ents (step c x l) q) = topList (2 ^ 10) (List.ofFn (ents l q) ++ List.ofFn (ents (chunk c x) q)) := by
  have h := topOfTwo_eq_topList 10 (ents l q) (Network.apply (sortNet 10 true) (ents (chunk c x) q)) hl (sortNet_apply_antitone 10 _)
  have e : ents (step c x l) q = Network.apply (mergeDescNet 10) fun j => max (ents l q j) (Network.apply (sortNet 10 true) (ents (chunk c x) q) (Fin.rev j)) := by
    unfold step
    rw [ents_merge, ents_better, ents_sort]
  rw [e]
  refine ⟨h.1, h.2.trans ?_⟩
  rw [sort_list, topList_perm List.perm_append_comm, topList_append_topList, topList_perm List.perm_append_comm]

end Cert.KernelIdeal.Net

end
-- ==== Proof.Val.Top.lean ====
/- What the selection launch leaves in its result: of every row the positions of its 1024 greatest similarities, provided the columns
   past the bank hold the least value and the bank's hold more. -/
module

public import proofs.«01_k».proof.Proof.Run.Regions
public import proofs.«01_k».proof.Proof.Val.Link
public import proofs.«01_k».proof.Proof.Val.Ix
public import Idealize.ShloMosaic.Lib.Pipeline.ValueKit

@[expose] public section

set_option maxRecDepth 16384

noncomputable section

namespace Cert.KernelIdeal.Net

open Idealize.ShloMosaic Idealize.ShloMosaic.TcCoe Idealize.ShloMosaic.SortNet Cert.KernelIdeal Cert.KernelIdeal.Gen Cert.Order
open Idealize.ShloMosaic.Pipeline (Dat)

/-- A row of 1024 laid out as eight rows of 128. -/
theorem spread_at {α : Type} (x : S64x1024.Idx → α) (q : Fin 64) (p : Fin (2 ^ 10)) :
    shapeCast S64x8x128 x shapeCasts_S64x1024_S64x8x128 (at3 q p) = x (pt2 q p) := by
  refine shapeCast_apply x _ _ _ ?_
  have h1 : (S64x1024.rowMajor (pt2 q p)).val = q.val * 1024 + p.val := rm2 q p
  have h2 : at3 q p = pt3 q ⟨p.val / 128, Nat.div_lt_of_lt_mul p.isLt⟩ ⟨p.val % 128, Nat.mod_lt _ (by decide)⟩ :=
    funext fun | ⟨0, _⟩ => rfl | ⟨1, _⟩ => rfl | ⟨2, _⟩ => rfl
  rw [h1, h2]
  have h3 := rm3 q (⟨p.val / 128, Nat.div_lt_of_lt_mul p.isLt⟩ : Fin 8) (⟨p.val % 128, Nat.mod_lt _ (by decide)⟩ : Fin 128)
  refine Eq.trans ?_ h3.symm
  show q.val * 1024 + p.val = q.val * (8 * 128) + p.val / 128 * 128 + p.val % 128
  omega

theorem gather_at {α : Type} (x : S64x8x128.Idx → α) (q : Fin 64) (p : Fin (2 ^ 10)) :
    shapeCast S64x1024 x shapeCasts_S64x8x128_S64x1024 (pt2 q p) = x (at3 q p) := by
  rw [← spread_at (shapeCast S64x1024 x shapeCasts_S64x8x128_S64x1024) q p, shapeCast_shapeCast]

theorem number_at (q : Fin 64) (p : Fin (2 ^ 10)) :
    (addi (muli sub (broadcast S64x8x128 128#32)) lane) (at3 q p) = BitVec.ofNat 32 p.val := by
  show sub (at3 q p) * BitVec.ofNat 32 128 + lane (at3 q p) = _
  rw [sub_at, lane_at, ← BitVec.ofNat_mul, ← BitVec.ofNat_add, Nat.div_add_mod']

theorem toInt_small (n : ℕ) (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- The entries of a chunk. -/
theorem ents_chunk (n : ℕ) (hn : n < 98) (x : FVec Ideal S64x1024 .f32) (q : Fin 64) (p : Fin (2 ^ 10)) :
    ents (chunk (BitVec.ofNat 32 n) x) q p = entry (x (pt2 q p)) ((1024 * n + p.val : ℕ) : ℤ) := by
  have hv : (chunk (BitVec.ofNat 32 n) x).v (at3 q p) = x (pt2 q p) := by
    show shapeCast S64x8x128 (shapeCast S64x1024 x shapeCasts_S64x1024_S64x1024) shapeCasts_S64x1024_S64x8x128 (at3 q p) = _
    rw [spread_at, shapeCast_self]
  have hi : (chunk (BitVec.ofNat 32 n) x).i (at3 q p) = BitVec.ofNat 32 (1024 * n + p.val) := by
    show BitVec.ofNat 32 n * BitVec.ofNat 32 1024 + sub (at3 q p) * BitVec.ofNat 32 128 + lane (at3 q p) = _
    rw [sub_at, lane_at, ← BitVec.ofNat_mul, ← BitVec.ofNat_mul, ← BitVec.ofNat_add, ← BitVec.ofNat_add, Nat.add_assoc, Nat.div_add_mod', Nat.mul_comm]
  have hp : p.val < 1024 := p.isLt
  show entry _ _ = _
  rw [hv, hi, toInt_small _ (by omega)]

variable (V : (c : Dev nD) → (b : Ref sig .tc) → Buf (Elt Ideal) ((c : Thread nD τ).loc b))

/-- The entry of a row at a column. -/
def cell (f : ℕ → EReal) (k : ℕ) : Entry := entry (f k) (k : ℤ)

/-- The entries of a row's first `n` chunks. -/
def seen (f : ℕ → EReal) (n : ℕ) : List Entry := (List.range (1024 * n)).map (cell f)

/-- The list's first contents. -/
def blank : List Entry := List.replicate 1024 (entry ⊥ 0)

theorem seen_split (f : ℕ → EReal) (n a b : ℕ) (h : 1024 * n = a + b) :
    seen f n = List.ofFn (row fun k : Fin a => f k.val) ++ (List.range' a b).map (cell f) := by
  unfold seen
  have e := List.range'_append_1 (s := 0) (m := a) (n := b)
  rw [Nat.zero_add] at e
  rw [h, List.range_eq_range', ← e, List.map_append]
  congr 1
  apply List.ext_getElem
  · rw [List.length_ofFn, List.length_map, List.length_range']
  · intro k h1 h2
    rw [List.getElem_ofFn, List.getElem_map, List.getElem_range']
    show cell f (0 + 1 * k) = _
    rw [Nat.zero_add, Nat.one_mul]
    rfl

theorem ents_start (q : Fin 64) (p : Fin (2 ^ 10)) : ents (start : Pairs Ideal) q p = entry ⊥ 0 := by
  have h : (start : Pairs Ideal).v (at3 q p) = (⊥ : EReal) := by
    show k1_pay6 (F := Ideal) (at3 q p) = ⊥
    unfold k1_pay6
    rw [shapeCast_self]
    exact (by decide +kernel : Ideal.ofBits .f32 0xFF800000#32 = ⊥)
  show entry _ _ = _
  rw [h]
  rfl

theorem runAt_list (c : Dev nD) (i : Fin 16) (q : Fin 64) (f : ℕ → EReal)
    (hf : ∀ t : Fin cfg1.N, t.val / 98 = i.val → ∀ p : Fin (2 ^ 10), (iblk1 V c 0 t : S64x1024.Idx → EReal) (pt2 q p) = f (1024 * (t.val % 98) + p.val)) :
    ∀ n, n < 98 → Antitone (ents (runAt V c (98 * i.val + n + 1)) q)
      ∧ List.ofFn (ents (runAt V c (98 * i.val + n + 1)) q) = topList (2 ^ 10) (blank ++ seen f (n + 1)) := by
  have hstep : ∀ n, n < 98 → ∀ l : Pairs Ideal, Antitone (ents l q) → (if (98 * i.val + n) % 98 = 0 then start else runAt V c (98 * i.val + n)) = l →
      List.ofFn (ents l q) = topList (2 ^ 10) (blank ++ seen f n) →
      Antitone (ents (runAt V c (98 * i.val + n + 1)) q) ∧ List.ofFn (ents (runAt V c (98 * i.val + n + 1)) q) = topList (2 ^ 10) (blank ++ seen f (n + 1)) := by
    intro n hn l ha hl he
    have hN : 98 * i.val + n < cfg1.N := lt_of_lt_of_eq (by omega : 98 * i.val + n < 1568) N_1.symm
    have h := runAt_succ V c ⟨98 * i.val + n, hN⟩
    dsimp only at h
    rw [hl] at h
    have e1 : (grid1.coords ⟨98 * i.val + n, hN⟩ 1).val = n := by
      have e : (grid1.coords ⟨98 * i.val + n, hN⟩ 1).val = (98 * i.val + n) / 1 % 98 := Pipeline.Grid.coords_val _ 1 (by decide) rfl
      omega
    rw [e1] at h
    rw [h]
    have hs := ents_step (BitVec.ofNat 32 n) (iblk1 V c 0 ⟨98 * i.val + n, hN⟩) l q ha
    refine ⟨hs.1, hs.2.trans ?_⟩
    have hc : List.ofFn (ents (chunk (BitVec.ofNat 32 n) (iblk1 V c 0 ⟨98 * i.val + n, hN⟩)) q) = (List.range' (1024 * n) 1024).map (cell f) := by
      apply List.ext_getElem
      · rw [List.length_ofFn, List.length_map, List.length_range']; rfl
      · intro k h1 h2
        rw [List.getElem_ofFn, List.getElem_map, List.getElem_range', ents_chunk n hn, hf ⟨98 * i.val + n, hN⟩ (by show (98 * i.val + n) / 98 = i.val; omega)]
        have e2 : (98 * i.val + n) % 98 = n := by omega
        show entry (f (1024 * ((98 * i.val + n) % 98) + k)) ((1024 * n + k : ℕ) : ℤ) = cell f (1024 * n + 1 * k)
        rw [e2, Nat.one_mul]
        rfl
    rw [he, hc, topList_append_topList, List.append_assoc]
    have : seen f (n + 1) = seen f n ++ (List.range' (1024 * n) 1024).map (cell f) := by
      unfold seen
      rw [← List.map_append, List.range_eq_range', List.range_eq_range']
      have := List.range'_append_1 (s := 0) (m := 1024 * n) (n := 1024)
      rw [Nat.zero_add] at this
      rw [this]
      rfl
    rw [this]
  intro n
  induction n with
  | zero =>
    intro hn
    refine hstep 0 hn start (fun a b _ => le_of_eq (by rw [ents_start, ents_start])) (if_pos (by omega)) ?_
    have : List.ofFn (ents (start : Pairs Ideal) q) = blank := by
      rw [show ents (start : Pairs Ideal) q = fun _ => entry ⊥ 0 from funext (ents_start q), List.ofFn_const]
      rfl
    have e0 : seen f 0 = [] := rfl
    rw [this, e0, List.append_nil]
    exact (topList_eq_self (List.pairwise_replicate.mpr (.inr le_rfl)) (le_of_eq List.length_replicate)).symm
  | succ n ih =>
    intro hn
    have h := ih (by omega)
    exact hstep (n + 1) hn _ h.1 (if_neg (by omega)) h.2

/-- THE ROW'S SELECTION: with nothing past the bank, the indices are the positions a stable sort of the bank's columns hands out. -/
theorem taken_at (c : Dev nD) (i : Fin 16) (q : Fin 64) (f : ℕ → EReal)
    (hf : ∀ t : Fin cfg1.N, t.val / 98 = i.val → ∀ p : Fin (2 ^ 10), (iblk1 V c 0 t : S64x1024.Idx → EReal) (pt2 q p) = f (1024 * (t.val % 98) + p.val))
    (hlo : ∀ k, k < 100000 → ⊥ < f k) (hhi : ∀ k, 100000 ≤ k → k < 100352 → f k = ⊥) (t : Fin cfg1.N) (ht : t.val % 98 = 97) (hti : t.val / 98 = i.val)
    (p : Fin (2 ^ 10)) :
    taken V c t (pt2 q p) = BitVec.ofNat 32 (sortedFrom (before fun k : Fin 100000 => f k.val) ⟨p.val, lt_of_lt_of_le p.isLt (by decide)⟩).val := by
  have h := (runAt_list V c i q f hf 97 (by decide)).2
  have et : 98 * i.val + 97 + 1 = t.val + 1 := by omega
  rw [et] at h
  have hs : blank ++ seen f 98 = blank ++ (List.ofFn (row fun k : Fin 100000 => f k.val) ++ (List.range' 100000 352).map (cell f)) := by
    rw [seen_split f 98 100000 352 (by norm_num)]
  have htop : topList (2 ^ 10) (blank ++ seen f 98) = topList (2 ^ 10) (List.ofFn (row fun k : Fin 100000 => f k.val)) := by
    rw [hs, topList_perm List.perm_append_comm, List.append_assoc]
    refine topList_append_of_le _ _ _ (by rw [List.length_ofFn]; decide) fun s hs a ha => ?_
    obtain ⟨k, rfl⟩ := List.mem_ofFn.mp (mem_of_mem_topList ha)
    have hv : ∃ j : ℤ, s = entry ⊥ j := by
      rcases List.mem_append.mp hs with hs | hs
      · obtain ⟨k, hk, rfl⟩ := List.mem_map.mp hs
        have hk := List.mem_range'_1.mp hk
        exact ⟨k, by unfold cell; rw [hhi k hk.1 (by omega)]⟩
      · exact ⟨0, List.eq_of_mem_replicate hs⟩
    obtain ⟨j, rfl⟩ := hv
    exact entry_le_of_bot _ _ (hlo k.val k.isLt)
  rw [htop] at h
  have hk := topList_get (fun k : Fin 100000 => f k.val) (2 ^ 10) ⟨p.val, lt_of_lt_of_le p.isLt (by decide)⟩ p.isLt
  rw [← h, List.getElem?_ofFn, dif_pos p.isLt] at hk
  have he := (entry_inj (Option.some.inj hk)).2
  have e1 : taken V c t (pt2 q p) = (runAt V c (t.val + 1)).i (at3 q p) := gather_at _ q p
  rw [e1]
  apply BitVec.eq_of_toInt_eq
  rw [toInt_small _ (lt_trans (Fin.isLt _) (by decide))]
  exact he

theorem index1 : ∀ t : Fin cfg1.N, win1_0.index t = ![t.val / 98, t.val % 98] ∧ win1_1.index t = ![t.val / 98, 0] :=
  (by decide +kernel : ∀ t : Fin grid1.N, _)

/-- The position in the bank of a row's `k`-th greatest similarity. -/
def pick (X : S1024x100352.Idx → EReal) (r : Fin 1024) (k : Fin 1024) : Fin 100000 :=
  sortedFrom (before fun c : Fin 100000 => X (pt2 r ⟨c.val, lt_of_lt_of_le c.isLt (by decide)⟩)) ⟨k.val, lt_of_lt_of_le k.isLt (by decide)⟩

def picks (X : S1024x100352.Idx → EReal) : S1024x1024.Idx → BitVec 32 := fun j => BitVec.ofNat 32 (pick X (j 0) (j 1)).val

set_option maxHeartbeats 1000000 in
/-- THE SELECTION'S RESULT. -/
theorem final1 (c : Dev nD) (X : S1024x100352.Idx → EReal) (hX : V c main_v2_0 = X)
    (hlo : ∀ r k, k.val < 100000 → ⊥ < X (pt2 r k)) (hhi : ∀ r k, 100000 ≤ k.val → X (pt2 r k) = ⊥) :
    (dat1 V c).arrAt 1 cfg1.N = picks X := by
  refine (dat1 V c).arrAt_eq_of_covers 1 _ (by decide +kernel) fun t hfl y => ?_
  blk_simp
  rw [after1_1]
  have ht : t.val % 98 = 97 := (flush1_1 t).mp hfl
  have htN : t.val < 1568 := lt_of_lt_of_eq t.isLt N_1
  have hy0 : (y 0).val < 64 := (y 0).isLt
  have h := taken_at V c ⟨t.val / 98, by omega⟩ (y 0) (fun k => if h : k < 100352 then X (pt2 (⟨t.val / 98 * 64 + (y 0).val, by omega⟩ : Fin 1024) ⟨k, h⟩) else ⊥)
    (fun s hs p => by
      have hp : p.val < 1024 := p.isLt
      have hk : 1024 * (s.val % 98) + p.val < 100352 := by omega
      rw [dif_pos hk]
      unfold iblk1
      rw [show V c (Pipeline.arrRef spec1 0) = X from hX]
      show X (((cfg1.win 0).blk s).view.emb (pt2 (y 0) p)) = _
      refine congrArg X (funext fun a => ?_)
      have h0 : ((((cfg1.win 0).blk s).view.emb (pt2 (y 0) p) 0 : Fin _) : ℕ) = t.val / 98 * 64 + (y 0).val := by
        blk_simp; rw [(index1 s).1]; exact congrArg (· * 64 + (y 0).val) hs
      have h1 : ((((cfg1.win 0).blk s).view.emb (pt2 (y 0) p) 1 : Fin _) : ℕ) = 1024 * (s.val % 98) + p.val := by
        blk_simp; rw [(index1 s).1, Nat.mul_comm]; rfl
      match a with
      | ⟨0, _⟩ => exact Fin.ext h0
      | ⟨1, _⟩ => exact Fin.ext h1)
    (fun k hk => by rw [dif_pos (by omega)]; exact hlo _ _ hk)
    (fun k hk hk' => by rw [dif_pos hk']; exact hhi _ _ hk) t ht rfl (y 1)
  have h0 : ((((cfg1.win 1).blk t).view.emb y 0 : Fin _) : ℕ) = t.val / 98 * 64 + (y 0).val := by
    blk_simp; rw [(index1 t).2]; rfl
  have h1 : ((((cfg1.win 1).blk t).view.emb y 1 : Fin _) : ℕ) = (y 1).val := by
    blk_simp; rw [(index1 t).2]; show 0 * 1024 + (y 1).val = _; rw [Nat.zero_mul, Nat.zero_add]
  have e0 : ((cfg1.win 1).blk t).view.emb y = (pt2 (⟨t.val / 98 * 64 + (y 0).val, by omega⟩ : Fin 1024) ⟨(y 1).val, (y 1).isLt⟩ : S1024x1024.Idx) :=
    funext fun | ⟨0, _⟩ => Fin.ext h0 | ⟨1, _⟩ => Fin.ext h1
  refine Eq.trans ?_ (congrArg (picks X) e0).symm
  have e1 : y = pt2 (y 0) (y 1) := (pt2_eq (a := 64) (b := 1024) y).symm
  refine (congrArg (taken V c t) e1).trans (h.trans ?_)
  show _ = BitVec.ofNat 32 (sortedFrom _ _).val
  congr 4
  funext k
  exact dif_pos _

end Cert.KernelIdeal.Net

end
-- ==== Proof.Val.Sorted.lean ====
/- What the second launch leaves in its result: of every row the positions in descending order of their values, and what columns of the
   least value past the row's end change in it. -/
module

public import proofs.«01_k».proof.Proof.Val.Top

@[expose] public section

set_option maxRecDepth 16384

noncomputable section

namespace Cert.Order

open Idealize.ShloMosaic Idealize.ShloMosaic.SortNet

/-- Columns of the least value past a row's end come after the row's own. -/
theorem sortedFrom_padded (n d : ℕ) (f : Fin (n + d) → EReal) (hf : ∀ k : Fin (n + d), n ≤ k.val → f k = ⊥) (k : ℕ) (hk : k < n) :
    (sortedFrom (before f) ⟨k, by omega⟩).val = (sortedFrom (before fun i : Fin n => f (Fin.castAdd d i)) ⟨k, hk⟩).val := by
  have h1 := topList_get f n ⟨k, by omega⟩ hk
  have h2 := topList_get (fun i : Fin n => f (Fin.castAdd d i)) n ⟨k, hk⟩ hk
  have hs : List.ofFn (row f) = List.ofFn (row fun i : Fin n => f (Fin.castAdd d i)) ++ List.ofFn fun i : Fin d => row f (Fin.natAdd n i) := by
    rw [List.ofFn_add]
    rfl
  rw [hs, topList_append_of_le _ _ _ (by rw [List.length_ofFn]) fun s hs a ha => ?_, h2] at h1
  · exact (Int.ofNat.inj (entry_inj (Option.some.inj h1)).2).symm
  · obtain ⟨j, rfl⟩ := List.mem_ofFn.mp (mem_of_mem_topList ha)
    obtain ⟨i, rfl⟩ := List.mem_ofFn.mp hs
    have e : f (Fin.natAdd n i) = ⊥ := hf _ (by rw [Fin.val_natAdd]; omega)
    rcases lt_or_eq_of_le (bot_le : ⊥ ≤ f (Fin.castAdd d j)) with h | h
    · refine le_of_lt (entry_lt.mpr (.inl ?_))
      rw [e]; exact h
    · refine le_of_lt (entry_lt.mpr (.inr ⟨e.trans h, ?_⟩))
      show ((j.val : ℕ) : ℤ) < ((n + i.val : ℕ) : ℤ)
      omega

end Cert.Order

namespace Cert.KernelIdeal.Net

open Idealize.ShloMosaic Idealize.ShloMosaic.TcCoe Idealize.ShloMosaic.SortNet Cert.KernelIdeal Cert.KernelIdeal.Gen Cert.Order
open Idealize.ShloMosaic.Pipeline (Dat)

/-- A row's positions in the order of their values. -/
theorem sorted_at (x : FVec Ideal S64x1024 .f32) (q : Fin 64) (p : Fin (2 ^ 10)) :
    sorted x (pt2 q p) = BitVec.ofNat 32 (sortedFrom (before fun k : Fin 1024 => x (pt2 q k)) p).val := by
  unfold sorted
  rw [gather_at, shapeCast_self]
  generalize hA : (⟨shapeCast S64x8x128 x shapeCasts_S64x1024_S64x8x128, addi (muli sub (broadcast S64x8x128 128#32)) lane⟩ : Pairs Ideal) = A
  have hent : ents A q = row fun k : Fin 1024 => x (pt2 q k) := by
    funext k
    have hv : A.v (at3 q k) = x (pt2 q k) := by rw [← hA]; exact spread_at x q k
    have hi : A.i (at3 q k) = BitVec.ofNat 32 k.val := by rw [← hA]; exact number_at q k
    have hk : k.val < 1024 := k.isLt
    show entry _ _ = _
    rw [hv, hi, toInt_small _ (by omega)]
    rfl
  have hl := sort_list 10 (ents A q)
  rw [← ents_sort, hent] at hl
  have hk := topList_get (fun k : Fin 1024 => x (pt2 q k)) (2 ^ 10) p p.isLt
  rw [← hl, List.getElem?_ofFn, dif_pos p.isLt] at hk
  have he := (entry_inj (Option.some.inj hk)).2
  apply BitVec.eq_of_toInt_eq
  rw [toInt_small _ (lt_trans (Fin.isLt _) (by decide))]
  exact he

variable (V : (c : Dev nD) → (b : Ref sig .tc) → Buf (Elt Ideal) ((c : Thread nD τ).loc b))

theorem index2 : ∀ t : Fin cfg2.N, win2_0.index t = ![t.val, 0] ∧ win2_1.index t = ![t.val, 0] :=
  (by decide +kernel : ∀ t : Fin grid2.N, _)

/-- The positions of every row in the order of their values. -/
def orders (X : S1024x1024.Idx → EReal) : S1024x1024.Idx → BitVec 32 :=
  fun j => BitVec.ofNat 32 (sortedFrom (before fun k : Fin 1024 => X (pt2 (j 0) k)) (j 1)).val

theorem block2 (c : Dev nD) (X : S1024x1024.Idx → EReal) (hX : V c main_v11 = X) (t : Fin cfg2.N) (ht : t.val < 16) (q : Fin 64) (k : Fin 1024) :
    (iblk2 V c 0 t : S64x1024.Idx → EReal) (pt2 q k) = X (pt2 (⟨t.val * 64 + q.val, by omega⟩ : Fin 1024) k) := by
  unfold iblk2
  rw [show V c (Pipeline.arrRef spec2 0) = X from hX]
  show X (((cfg2.win 0).blk t).view.emb (pt2 q k)) = _
  refine congrArg X (funext fun a => ?_)
  have h0 : ((((cfg2.win 0).blk t).view.emb (pt2 q k) 0 : Fin _) : ℕ) = t.val * 64 + q.val := by
    blk_simp; rw [(index2 t).1]; rfl
  have h1 : ((((cfg2.win 0).blk t).view.emb (pt2 q k) 1 : Fin _) : ℕ) = k.val := by
    blk_simp; rw [(index2 t).1]; show 0 * 1024 + k.val = _; rw [Nat.zero_mul, Nat.zero_add]
  match a with
  | ⟨0, _⟩ => exact Fin.ext h0
  | ⟨1, _⟩ => exact Fin.ext h1

theorem point2 (c : Dev nD) (X : S1024x1024.Idx → EReal) (hX : V c main_v11 = X) (t : Fin cfg2.N) (ht : t.val < 16) (q : Fin 64) (k : Fin 1024) :
    sorted (F := Ideal) (iblk2 V c 0 t) (pt2 q k) = orders X (pt2 (⟨t.val * 64 + q.val, by omega⟩ : Fin 1024) k) := by
  refine (sorted_at (iblk2 V c 0 t) q k).trans ?_
  rw [funext fun k => block2 V c X hX t ht q k]
  rfl

attribute [local irreducible] sorted orders in
set_option maxHeartbeats 1000000 in
/-- THE SECOND SORT'S RESULT. -/
theorem final2 (c : Dev nD) (X : S1024x1024.Idx → EReal) (hX : V c main_v11 = X) : (dat2 V c).arrAt 1 cfg2.N = orders X := by
  refine (dat2 V c).arrAt_eq_of_covers 1 _ (by decide +kernel) fun t hfl y => ?_
  blk_simp
  rw [after2_1]
  have htN : t.val < 16 := lt_of_lt_of_eq t.isLt N_2
  have hy0 : (y 0).val < 64 := (y 0).isLt
  have h0 : ((((cfg2.win 1).blk t).view.emb y 0 : Fin _) : ℕ) = t.val * 64 + (y 0).val := by
    blk_simp; rw [(index2 t).2]; rfl
  have h1 : ((((cfg2.win 1).blk t).view.emb y 1 : Fin _) : ℕ) = (y 1).val := by
    blk_simp; rw [(index2 t).2]; show 0 * 1024 + (y 1).val = _; rw [Nat.zero_mul, Nat.zero_add]
  have e0 : ((cfg2.win 1).blk t).view.emb y = (pt2 (⟨t.val * 64 + (y 0).val, by omega⟩ : Fin 1024) ⟨(y 1).val, (y 1).isLt⟩ : S1024x1024.Idx) :=
    funext fun | ⟨0, _⟩ => Fin.ext h0 | ⟨1, _⟩ => Fin.ext h1
  have e1 : y = pt2 (y 0) (y 1) := (pt2_eq (a := 64) (b := 1024) y).symm
  exact (congrArg (sorted (F := Ideal) (iblk2 V c 0 t)) e1).trans ((point2 V c X hX t htN (y 0) (y 1)).trans (congrArg (orders X) e0).symm)

end Cert.KernelIdeal.Net

end
-- ==== Proof.Val.Sims.lean ====
/- What the similarity launch leaves in its two result arrays, element by element. -/
module

public import proofs.«01_k».proof.Proof.Val.Sorted
public import Idealize.ShloMosaic.Lib.Pipeline.ValueKit

@[expose] public section

set_option maxRecDepth 16384

noncomputable section

namespace Cert.KernelIdeal.Net

open Idealize.ShloMosaic Idealize.ShloMosaic.TcCoe Cert.Order Cert.KernelIdeal Cert.KernelIdeal.Gen

variable (V : (c : Dev nD) → (b : Ref sig .tc) → Buf (Elt Ideal) ((c : Thread nD τ).loc b))

theorem index0 : ∀ t : Fin cfg0.N, win0_0.index t = ![0, 0] ∧ win0_1.index t = ![0, 0] ∧ win0_2.index t = ![0, (grid0.coords t 0).val]
    ∧ win0_3.index t = ![0, (grid0.coords t 0).val] ∧ win0_4.index t = ![0, (grid0.coords t 0).val] ∧ win0_5.index t = ![0, (grid0.coords t 0).val] :=
  (by decide +kernel : ∀ t : Fin grid0.N, _)

theorem column (a b : ℕ) : IntOp.addi (BitVec.ofNat 32 b) (Scalar.muli (BitVec.ofNat 32 a) 512#32) = BitVec.ofNat 32 (a * 512 + b) := by
  show BitVec.ofNat 32 b + BitVec.ofNat 32 a * BitVec.ofNat 32 512 = _
  rw [← BitVec.ofNat_mul, ← BitVec.ofNat_add, Nat.add_comm]

theorem least : Ideal.ofBits .f32 0xFF800000#32 = ⊥ := by decide +kernel

/-- The similarities of the whole width: the products' sum on the bank's columns, the least value past them. -/
def simil (A : S1024x64.Idx → EReal) (X : S64x100352.Idx → EReal) : S1024x100352.Idx → EReal := fun j =>
  Scalar.select (IntOp.cmpi .slt (BitVec.ofNat 32 (j 1).val) 100000#32) (∑ d : Fin 64, A (ix2 (j 0) d) * X (ix2 d (j 1))) (⊥ : EReal)

theorem point4 (c : Dev nD) (t : Fin cfg0.N) (y) : k0_pay2 (grid0.coords t) (iblk0 V c 0 t) (iblk0 V c 2 t) y
    = simil (V c main_arg0) (V c main_v0) (((cfg0.win 4).blk t).view.emb y) := by
  pointwise [k0_pay2, k0_pay1, simil]
  blk_point [iblk0, index0 t]
  · rw [column]
  · exact congrArg _ least

theorem point5 (c : Dev nD) (t : Fin cfg0.N) (y) : k0_pay3 (grid0.coords t) (iblk0 V c 1 t) (iblk0 V c 3 t) y
    = simil (V c main_arg1) (V c main_v1) (((cfg0.win 5).blk t).view.emb y) := by
  pointwise [k0_pay3, k0_pay1, simil]
  blk_point [iblk0, index0 t]
  · rw [column]
  · exact congrArg _ least

attribute [local irreducible] simil in
theorem final4 (c : Dev nD) : (dat0 V c).arrAt 4 cfg0.N = simil (V c main_arg0) (V c main_v0) := by
  refine (dat0 V c).arrAt_eq_of_covers 4 _ (by decide +kernel) fun t _ y => ?_
  blk_simp
  rw [after0_4]
  exact point4 V c t y

attribute [local irreducible] simil in
theorem final5 (c : Dev nD) : (dat0 V c).arrAt 5 cfg0.N = simil (V c main_arg1) (V c main_v1) := by
  refine (dat0 V c).arrAt_eq_of_covers 5 _ (by decide +kernel) fun t _ y => ?_
  blk_simp
  rw [after0_5]
  exact point5 V c t y

theorem simil_real (A : S1024x64.Idx → EReal) (X : S64x100352.Idx → EReal) (r : Fin 1024) (k : Fin 100352) (hk : k.val < 100000) :
    simil A X (pt2 r k) = ∑ d : Fin 64, A (pt2 r d) * X (pt2 d k) := by
  have h : IntOp.cmpi .slt (BitVec.ofNat 32 k.val) 100000#32 = 1#1 := by
    show BitVec.ofBool ((BitVec.ofNat 32 k.val).slt 100000#32) = 1#1
    rw [BitVec.slt_eq_decide, toInt_small _ (by omega), show (100000#32 : BitVec 32).toInt = 100000 from rfl, decide_eq_true (by omega)]
    rfl
  show Scalar.select (IntOp.cmpi .slt (BitVec.ofNat 32 k.val) 100000#32) _ _ = _
  rw [h]
  rfl

theorem simil_past (A : S1024x64.Idx → EReal) (X : S64x100352.Idx → EReal) (r : Fin 1024) (k : Fin 100352) (hk : 100000 ≤ k.val) :
    simil A X (pt2 r k) = ⊥ := by
  have h : IntOp.cmpi .slt (BitVec.ofNat 32 k.val) 100000#32 = 0#1 := by
    show BitVec.ofBool ((BitVec.ofNat 32 k.val).slt 100000#32) = 0#1
    rw [BitVec.slt_eq_decide, toInt_small _ (by omega), show (100000#32 : BitVec 32).toInt = 100000 from rfl, decide_eq_false (by omega)]
    rfl
  show Scalar.select (IntOp.cmpi .slt (BitVec.ofNat 32 k.val) 100000#32) _ _ = _
  rw [h]
  rfl

/-- Sums of products of real numbers are more than the least value. -/
theorem sum_real {n : ℕ} (f g : Fin n → EReal) (hf : ∀ d, f d ≠ ⊥ ∧ f d ≠ ⊤) (hg : ∀ d, g d ≠ ⊥ ∧ g d ≠ ⊤) : ⊥ < ∑ d, f d * g d := by
  have h : ∀ d, f d * g d = ((f d).toReal * (g d).toReal : ℝ) := fun d => by
    rw [EReal.coe_mul, EReal.coe_toReal (hf d).2 (hf d).1, EReal.coe_toReal (hg d).2 (hg d).1]
  rw [Finset.sum_congr rfl fun d _ => h d]
  have hs : ∀ s : Finset (Fin n), ∃ x : ℝ, ∑ d ∈ s, (((f d).toReal * (g d).toReal : ℝ) : EReal) = (x : EReal) := by
    intro s
    induction s using Finset.induction_on with
    | empty => exact ⟨0, by rw [Finset.sum_empty]; rfl⟩
    | insert a s ha ih =>
      obtain ⟨x, hx⟩ := ih
      exact ⟨(f a).toReal * (g a).toReal + x, by rw [Finset.sum_insert ha, hx, ← EReal.coe_add]⟩
  obtain ⟨x, hx⟩ := hs Finset.univ
  rw [hx]
  exact EReal.bot_lt_coe x

end Cert.KernelIdeal.Net

end
-- ==== Proof.Val.KerRead.lean ====
/- The kernel's stretches give what the reference computes: the same choices, the same similarities, the same columns. -/
module

public import proofs.«01_k».proof.Proof.Val.RefRead
public import proofs.«01_k».proof.Proof.Val.Sims
public import proofs.«01_k».proof.Proof.Val.Top
public import proofs.«01_k».proof.Proof.Val.Sorted
public import Idealize.ShloMosaic.Lib.KernelVsHost

@[expose] public section

set_option maxRecDepth 16384

noncomputable section

namespace Cert.KernelIdeal.Net

open Idealize.ShloMosaic Idealize.ShloMosaic.TcCoe Idealize.ShloMosaic.StableHlo Cert.KernelIdeal Cert.KernelIdeal.Gen Cert.Order Cert.Host
open Cert.ReferenceIdeal.Value (A0 A1 A2 A3 A4 A5 first second indices_at indices6_at sims_at sims35_at mainRows mainRows_at recorded recorded_at tenRows tenRows_at takenB_at
  res_main_v3 res_main_indices res_main_v35 res_main_indices_6 res_main_v46)

/-! ## Filling up -/

theorem filled_at (x : FVec Ideal S64x100000 .f32) (d : Fin 64) (k : Fin 100352) (hk : k.val < 100000) : filled (F := Ideal) x (pt2 d k) = x (pt2 d ⟨k.val, hk⟩) :=
  pad_apply_of_inside _ _ _ _ _ _ _ _ _ fun
    | ⟨0, _⟩ => by show d.val = 0 + d.val * 1; omega
    | ⟨1, _⟩ => by show k.val = 0 + k.val * 1; omega

theorem filledSims_at (x : FVec Ideal S1024x1000 .f32) (i : Fin 1024) (k : Fin 1024) (hk : k.val < 1000) : filledSims (F := Ideal) x (pt2 i k) = x (pt2 i ⟨k.val, hk⟩) :=
  pad_apply_of_inside _ _ _ _ _ _ _ _ _ fun
    | ⟨0, _⟩ => by show i.val = 0 + i.val * 1; omega
    | ⟨1, _⟩ => by show k.val = 0 + k.val * 1; omega

theorem filledSims_past (x : FVec Ideal S1024x1000 .f32) (i : Fin 1024) (k : Fin 1024) (hk : 1000 ≤ k.val) : filledSims (F := Ideal) x (pt2 i k) = (⊥ : EReal) := by
  refine (pad_apply_of_not_inside _ _ _ _ _ _ _ _ ⟨1, by decide⟩ ?_).trans least
  rintro ⟨-, -, h⟩
  have h' : (k.val - 0) / 1 < 1000 := h
  omega

theorem simil_filled (A : S1024x64.Idx → EReal) (x : FVec Ideal S64x100000 .f32) (r : Fin 1024) (k : Fin 100352) (hk : k.val < 100000) :
    simil A (filled (F := Ideal) x) (pt2 r k) = ∑ d : Fin 64, A (pt2 r d) * x (pt2 d ⟨k.val, hk⟩) := by
  rw [simil_real _ _ _ _ hk]
  exact Finset.sum_congr rfl fun d _ => by rw [filled_at _ _ _ hk]

theorem simil_chosen (A : S1024x64.Idx → EReal) (x : FVec Ideal S64x100000 .f32) (r : Fin 1024) (m : Fin 100000) :
    simil A (filled x) (pt2 r ⟨m.val, lt_of_lt_of_le m.isLt (by decide)⟩) = ∑ d : Fin 64, A (pt2 r d) * x (pt2 d m) :=
  simil_filled A x r ⟨m.val, lt_of_lt_of_le m.isLt (by decide)⟩ m.isLt

theorem sortedFrom_kept {m : ℕ} (n d : ℕ) (hm : m = n + d) (f : Fin m → EReal) (hf : ∀ k : Fin m, n ≤ k.val → f k = ⊥) (k : ℕ) (hk : k < n) (hk' : k < m)
    (u : Fin n → Fin m) (hu : ∀ i, (u i).val = i.val) : (sortedFrom (before f) ⟨k, hk'⟩).val = (sortedFrom (before fun i : Fin n => f (u i)) ⟨k, hk⟩).val := by
  subst hm
  have e : u = Fin.castAdd d := funext fun i => Fin.ext (hu i)
  rw [e]
  exact sortedFrom_padded n d f hf k hk

variable (V0 : Valuation Cert.ReferenceIdeal.τ Cert.ReferenceIdeal.sig (Elt Ideal))

/-! ## The first choice -/

theorem choice1 (h5 : ∀ j, A5 V0 j = 0#1) :
    extractStridedSlice S1024x1000 ![0, 0] (picks (simil (A0 V0) (filled (F := Ideal) (A2 V0)))) slices_S1024x1024_S1024x1000_0_0 = res_main_indices V0 := by
  refine ext2 (a := 1024) (b := 1000) fun i k => ?_
  refine (slice_at (by decide) _ rfl rfl _ _ i k).trans (Eq.trans ?_ (indices_at V0 i k).symm)
  show word (sortedFrom (before fun c : Fin 100000 => simil (A0 V0) (filled (F := Ideal) (A2 V0)) (pt2 i ⟨c.val, _⟩)) _).val = _
  unfold first
  have e : (fun c : Fin 100000 => simil (A0 V0) (filled (F := Ideal) (A2 V0)) (pt2 i (⟨c.val, lt_of_lt_of_le c.isLt (by decide)⟩ : Fin 100352)))
      = fun c => (res_main_v3 V0 : Cert.ReferenceIdeal.S1024x100000.Idx → EReal) (pt2 i c) := funext fun c =>
    (simil_filled _ _ i _ c.isLt).trans (sims_at V0 h5 i c).symm
  rw [e]
  rfl

/-- The numbers the first record holds. -/
theorem numbers1 (h4 : ∀ j : Cert.ReferenceIdeal.S100000x1.Idx, A4 V0 j = word (j 0).val) :
    broadcastInDim S1024x1000x1 ![0, 1] bcast_S1024x1000_S1024x1000x1_0_1 (res_main_indices V0) = recorded V0 := by
  refine ext3 (a := 1024) (b := 1000) (c := 1) fun i k d => ?_
  refine Eq.trans ?_ ((indices_at V0 i k).trans (recorded_at V0 h4 i k d).symm)
  refine congrArg (res_main_indices V0) (funext fun b => ?_)
  match b with
  | ⟨0, _⟩ => rfl
  | ⟨1, _⟩ => rfl

/-! ## The second choice -/

theorem third_words (w : IVec S1024x1000 32) (n : Fin 1024 → Fin 1000 → Fin 100000) (hw : ∀ i k, w (pt2 i k) = word (n i k).val) (j : S1024x1000x1.Idx) :
    shapeCast S1024x1000x1 w shapeCasts_S1024x1000_S1024x1000x1 j = word (n (j 0) (j 1)).val := by
  refine Eq.trans ?_ (hw (j 0) (j 1))
  rw [← pt3_eq (a := 1024) (b := 1000) (c := 1) j]
  refine shapeCast_apply w _ _ _ ?_
  refine (rm2 (a := 1024) (b := 1000) (j 0) (j 1)).trans (Eq.trans ?_ (rm3 (a := 1024) (b := 1000) (c := 1) (j 0) (j 1) (j 2)).symm)
  have h2 : (j 2).val < 1 := (j 2).isLt
  show (j 0).val * 1000 + (j 1).val = (j 0).val * (1000 * 1) + (j 1).val * 1 + (j 2).val
  omega

theorem chosenSims_at (x : FVec Ideal S1024x100352 .f32) (w : IVec S1024x1000 32) (n : Fin 1024 → Fin 1000 → Fin 100000) (hw : ∀ i k, w (pt2 i k) = word (n i k).val)
    (i : Fin 1024) (k : Fin 1000) : chosenSims (F := Ideal) x w (pt2 i k) = x (pt2 i ⟨(n i k).val, lt_of_lt_of_le (n i k).isLt (by decide)⟩) := by
  unfold chosenSims
  have e : select (cmpi .slt w (broadcastInDim S1024x1000 ![] bcast_S_S1024x1000 (constantI S_ 32 0#32))) (addi w (broadcastInDim S1024x1000 ![] bcast_S_S1024x1000 (constantI S_ 32 100352#32))) w = w :=
    wrap_word w _ _ (fun _ => rfl) fun j => ⟨(n (j 0) (j 1)).val, lt_trans (Fin.isLt _) (by decide), (congrArg w (pt2_eq (a := 1024) (b := 1000) j).symm).trans (hw _ _)⟩
  rw [e]
  refine (congrFun (select_all _ _ _ fun j => check_all 100351 (by decide) _ _ _ _ _ _ (fun _ => rfl) (fun _ => rfl) (fun _ => rfl)
    (fun j => ⟨_, le_of_lt (lt_of_lt_of_le (Fin.isLt (n (j 0) (j 1))) (by decide)), third_words w n hw j⟩) j) _).trans ?_
  exact along_at gather_S1024x100352_S1024x1000x1_S1024x1000_n_1_0_0_1_2_11.wf x _ i k ⟨(n i k).val, _⟩ (third_words w n hw _) (by decide)

theorem sims2 : chosenSims (F := Ideal) (simil (A1 V0) (filled (F := Ideal) (A3 V0))) (res_main_indices V0) = res_main_v35 V0 := by
  refine ext2 (a := 1024) (b := 1000) fun i k => ?_
  refine (chosenSims_at _ _ _ (indices_at V0) i k).trans ((simil_chosen _ _ i (first V0 i k)).trans (Eq.trans ?_ (sims35_at V0 i k).symm))
  exact Finset.sum_congr rfl fun d _ => mul_comm _ _

theorem choice2 : extractStridedSlice S1024x10 ![0, 0] (orders (filledSims (F := Ideal) (res_main_v35 V0))) slices_S1024x1024_S1024x10_0_0 = res_main_indices_6 V0 := by
  refine ext2 (a := 1024) (b := 10) fun i k => ?_
  refine (slice_at (by decide) _ rfl rfl _ _ i k).trans (Eq.trans ?_ (indices6_at V0 i k).symm)
  have hk : k.val < 1000 := lt_of_lt_of_le k.isLt (by decide)
  have e : (fun c : Fin 1000 => filledSims (F := Ideal) (res_main_v35 V0) (pt2 i (⟨c.val, lt_trans c.isLt (by decide)⟩ : Fin 1024)))
      = fun c => (res_main_v35 V0 : Cert.ReferenceIdeal.S1024x1000.Idx → EReal) (pt2 i c) := funext fun c => filledSims_at _ i _ c.isLt
  have h := sortedFrom_kept (m := 1024) 1000 24 (by decide) (fun c : Fin 1024 => filledSims (F := Ideal) (res_main_v35 V0) (pt2 i c)) (fun c hc => filledSims_past _ i c hc) k.val hk
    (lt_trans hk (by decide)) (fun c => ⟨c.val, lt_trans c.isLt (by decide)⟩) fun _ => rfl
  rw [e] at h
  exact congrArg word h

/-! ## The columns of the last choice -/

theorem recordA_at (n : IVec S1024x1000x1 32) (i : Fin 1024) (k : Fin 1000) : recordA n (pt3 i k 0) = n (pt3 i k 0) := by
  unfold recordA
  refine concatenate_pair_apply_left (t := Cert.ReferenceIdeal.S1024x1000x2) (s₁ := Cert.ReferenceIdeal.S1024x1000x1) (2 : Fin 3) n _ _ _ rfl (pt3 i k 0) fun b => ?_
  match b with
  | ⟨0, _⟩ => rfl
  | ⟨1, _⟩ => rfl
  | ⟨2, _⟩ => rfl

theorem recordB_at (t : IVec S1024x10x2 32) (i : Fin 1024) (k : Fin 10) : recordB t (pt3 i k 0) = t (pt3 i k 0) := by
  unfold recordB
  refine concatenate_pair_apply_left (t := Cert.ReferenceIdeal.S1024x10x3) (s₁ := Cert.ReferenceIdeal.S1024x10x2) (2 : Fin 3) t _ _ _ rfl (pt3 i k 0) fun b => ?_
  match b with
  | ⟨0, _⟩ => rfl
  | ⟨1, _⟩ => rfl
  | ⟨2, _⟩ => rfl

theorem numbers_at (r : IVec S1024x10x3 32) (i : Fin 1024) (k : Fin 10) : numbers r (pt1 ⟨i.val * 10 + k.val, by omega⟩) = r (pt3 i k 0) := by
  unfold numbers
  refine (shapeCast_apply _ _ _ (pt2 (a := 1024) (b := 10) i k) ((rm2 i k).trans (rm1 (⟨i.val * 10 + k.val, by omega⟩ : Fin 10240)).symm)).trans ?_
  refine (shapeCast_apply _ _ _ (pt3 (a := 1024) (b := 10) (c := 1) i k 0) ((rm3 i k 0).trans (Eq.trans ?_ (rm2 i k).symm))).trans ?_
  · show i.val * (10 * 1) + k.val * 1 + 0 = i.val * 10 + k.val
    omega
  · refine congrArg r (funext fun b => ?_)
    match b with
    | ⟨0, _⟩ => exact Fin.ext (Nat.zero_add _)
    | ⟨1, _⟩ => exact Fin.ext (Nat.zero_add _)
    | ⟨2, _⟩ => rfl

theorem columnsOf_at (X : FVec Ideal S64x100000 .f32) (w : IVec S10240 32) (n : Fin 10240 → Fin 100000) (hw : ∀ i, w (pt1 i) = word (n i).val)
    (i : Fin 10240) (d : Fin 64) : columnsOf (F := Ideal) X w (pt2 i d) = X (pt2 d (n i)) := by
  have hb : ∀ j : S10240x1.Idx, broadcastInDim S10240x1 ![0] bcast_S10240_S10240x1_0 w j = word (n (j 0)).val := fun j => by
    refine Eq.trans ?_ (hw (j 0))
    refine congrArg w (funext fun b => ?_)
    match b with
    | ⟨0, _⟩ => rfl
  unfold columnsOf
  have e : select (cmpi .slt w (broadcastInDim S10240 ![] bcast_S_S10240 (constantI S_ 32 0#32))) (addi w (broadcastInDim S10240 ![] bcast_S_S10240 (constantI S_ 32 100000#32))) w = w :=
    wrap_word w _ _ (fun _ => rfl) fun j => ⟨(n (j 0)).val, lt_trans (Fin.isLt _) (by decide), (congrArg w (pt1_eq (a := 10240) j).symm).trans (hw _)⟩
  rw [e]
  refine (congrFun (select_all _ _ _ fun j => check_all 99999 (by decide) _ _ _ _ _ _ (fun _ => rfl) (fun _ => rfl) (fun _ => rfl)
    (fun j => ⟨_, Nat.lt_succ_iff.mp (Fin.isLt (n (j 0))), hb j⟩) _) _).trans ?_
  refine (rows_at gather_S100000x64_S10240x1_S10240x64_1_0_n_n_0_1_164 rfl rfl rfl rfl rfl _ _ i d (n i) (hb _) (by decide)).trans ?_
  exact Cert.ReferenceIdeal.Value.transposed_at X (n i) d

theorem number3 (h4 : ∀ j : Cert.ReferenceIdeal.S100000x1.Idx, A4 V0 j = word (j 0).val) (i : Fin 1024) (k : Fin 10) :
    numbers (recordB (takenB (recordA (recorded V0)) (res_main_indices_6 V0))) (pt1 ⟨i.val * 10 + k.val, by omega⟩) = word (first V0 i (second V0 i k)).val :=
  (numbers_at _ i k).trans ((recordB_at _ i k).trans ((takenB_at _ _ _ (indices6_at V0) i k 0).trans ((recordA_at _ i _).trans (recorded_at V0 h4 i _ 0))))

/-- The number in place `j` of the row of numbers. -/
def placed (j : Fin 10240) : Fin 100000 := first V0 ⟨j.val / 10, by omega⟩ (second V0 ⟨j.val / 10, by omega⟩ ⟨j.val % 10, by omega⟩)

theorem placed_at (i : Fin 1024) (k : Fin 10) : placed V0 ⟨i.val * 10 + k.val, by omega⟩ = first V0 i (second V0 i k) := by
  have ei : (⟨(i.val * 10 + k.val) / 10, by omega⟩ : Fin 1024) = i := Fin.ext (by show (i.val * 10 + k.val) / 10 = i.val; omega)
  have ek : (⟨(i.val * 10 + k.val) % 10, by omega⟩ : Fin 10) = k := Fin.ext (by show (i.val * 10 + k.val) % 10 = k.val; omega)
  unfold placed
  rw [ei, ek]

theorem number3_row (h4 : ∀ j : Cert.ReferenceIdeal.S100000x1.Idx, A4 V0 j = word (j 0).val) (j : Fin 10240) :
    numbers (recordB (takenB (recordA (recorded V0)) (res_main_indices_6 V0))) (pt1 j) = word (placed V0 j).val := by
  have e : j = (⟨(⟨j.val / 10, by omega⟩ : Fin 1024).val * 10 + (⟨j.val % 10, by omega⟩ : Fin 10).val, by show j.val / 10 * 10 + j.val % 10 < 10240; omega⟩ : Fin 10240) :=
    Fin.ext (by show j.val = j.val / 10 * 10 + j.val % 10; omega)
  rw [e, number3 V0 h4, placed_at]

theorem columns_folded (x : FVec Ideal S10240x64 .f32) (i : Fin 1024) (k : Fin 10) (d : Fin 64) :
    shapeCast S1024x10x64 x shapeCasts_S10240x64_S1024x10x64 (pt3 i k d) = x (pt2 ⟨i.val * 10 + k.val, by omega⟩ d) := by
  refine shapeCast_apply x _ _ _ ?_
  refine (rm2 (⟨i.val * 10 + k.val, by omega⟩ : Fin 10240) d).trans (Eq.trans ?_ (rm3 i k d).symm)
  show (i.val * 10 + k.val) * 64 + d.val = i.val * (10 * 64) + k.val * 64 + d.val
  omega

theorem columns3 (h4 : ∀ j : Cert.ReferenceIdeal.S100000x1.Idx, A4 V0 j = word (j 0).val) :
    shapeCast S1024x10x64 (columnsOf (F := Ideal) (A2 V0) (numbers (recordB (takenB (recordA (recorded V0)) (res_main_indices_6 V0))))) shapeCasts_S10240x64_S1024x10x64
      = tenRows (mainRows V0) (res_main_indices_6 V0) := by
  refine ext3 (a := 1024) (b := 10) (c := 64) fun i k d => ?_
  rw [columns_folded, columnsOf_at _ _ _ (number3_row V0 h4), placed_at, tenRows_at _ _ _ (indices6_at V0), mainRows_at]

/-- The last choice is the reference's. -/
theorem choice3 (h4 : ∀ j : Cert.ReferenceIdeal.S100000x1.Idx, A4 V0 j = word (j 0).val) :
    lastChoice (F := Ideal) (shapeCast S1024x10x64 (columnsOf (F := Ideal) (A2 V0) (numbers (recordB (takenB (recordA (recorded V0)) (res_main_indices_6 V0))))) shapeCasts_S10240x64_S1024x10x64) (A0 V0)
      = (Host.topK Cert.ReferenceIdeal.S1024x5 1 (FloatOps.cmpfTotal .gt) (res_main_v46 V0) Cert.ReferenceIdeal.Gen.sliceFits_S1024x10_S1024x5).2 := by
  rw [columns3 V0 h4]
  rfl

end Cert.KernelIdeal.Net

end
-- ==== Proof.Val.Whole.lean ====
/- The kernel's run, stretch by stretch and launch by launch, against the reference's values. -/
module

public import proofs.«01_k».proof.Proof.Val.KerRead

@[expose] public section

set_option maxRecDepth 16384

noncomputable section

namespace Cert.KernelIdeal.Net

open Idealize.ShloMosaic Idealize.ShloMosaic.TcCoe Idealize.ShloMosaic.StableHlo Cert.KernelIdeal Cert.KernelIdeal.Gen Cert.Order Cert.Host
open Cert.ReferenceIdeal.Value (A0 A1 A2 A3 A4 A5 recorded res_main_indices res_main_v35 res_main_indices_6 res_main_v46)

variable (V0 : Valuation Cert.ReferenceIdeal.τ Cert.ReferenceIdeal.sig (Elt Ideal))
  (m : (ℓ : Loc nD τ sig) → Buf (Elt Ideal) ℓ) (ρ : Dev nD → PrngReg) (c : Dev nD)

/-- The kernel is launched on the reference's arguments, and they are such as the claim is about. -/
structure Same : Prop where
  e0 : m ((c : Thread nD τ).loc main_arg0) = A0 V0
  e1 : m ((c : Thread nD τ).loc main_arg1) = A1 V0
  e2 : m ((c : Thread nD τ).loc main_arg2) = A2 V0
  e3 : m ((c : Thread nD τ).loc main_arg3) = A3 V0
  f0 : ∀ j, A0 V0 j ≠ ⊥ ∧ A0 V0 j ≠ ⊤
  f2 : ∀ j, A2 V0 j ≠ ⊥ ∧ A2 V0 j ≠ ⊤
  f4 : ∀ j : Cert.ReferenceIdeal.S100000x1.Idx, A4 V0 j = word (j 0).val
  f5 : ∀ j, A5 V0 j = 0#1

variable {V0 m c}
variable (S : Same V0 m c)
include S

theorem bank0 : W4 m ρ c (Proc.devRef .tc main_v0) = filled (F := Ideal) (A2 V0) :=
  (W4_of m ρ c main_v0 (by decide)).trans ((W3_of m ρ c main_v0 (by decide)).trans ((at_v0 (W0 m ρ c)).trans (congrArg (filled (F := Ideal)) S.e2)))

theorem bank1 : W4 m ρ c (Proc.devRef .tc main_v1) = filled (F := Ideal) (A3 V0) :=
  (at_v1 (W2 m ρ c)).trans (congrArg (filled (F := Ideal)) ((W2_args m ρ c main_arg3 (by decide)).trans S.e3))

theorem sims0 : W5 m ρ c (Proc.devRef .tc main_v2_0) = simil (A0 V0) (filled (F := Ideal) (A2 V0)) :=
  (W5_arr m ρ c 4).trans ((final4 (V4 m ρ) c).trans (congrArg₂ simil ((W4_args m ρ c main_arg0 (by decide)).trans S.e0) (bank0 ρ S)))

theorem sims1 : W5 m ρ c (Proc.devRef .tc main_v2_1) = simil (A1 V0) (filled (F := Ideal) (A3 V0)) :=
  (W5_arr m ρ c 5).trans ((final5 (V4 m ρ) c).trans (congrArg₂ simil ((W4_args m ρ c main_arg1 (by decide)).trans S.e1) (bank1 ρ S)))

theorem chosen1 : W6 m ρ c (Proc.devRef .tc main_v3) = picks (simil (A0 V0) (filled (F := Ideal) (A2 V0))) :=
  (W6_arr m ρ c 1).trans (final1 (V5 m ρ) c _ (sims0 ρ S)
    (fun r k hk => by
      rw [simil_filled _ _ _ _ hk]
      exact sum_real _ _ (fun d => S.f0 _) fun d => S.f2 _)
    fun r k hk => simil_past _ _ _ _ hk)

theorem v4_is : W7 m ρ c (Proc.devRef .tc main_v4) = res_main_indices V0 := by
  refine (at_v4 (W6 m ρ c)).trans ?_
  rw [chosen1 ρ S]
  exact choice1 V0 S.f5

/-- The first record. -/
theorem v9_is : W7 m ρ c (Proc.devRef .tc main_v9) = recordA (recorded V0) := by
  refine (at_v9 (W6 m ρ c)).trans ?_
  rw [chosen1 ρ S]
  rw [choice1 V0 S.f5, numbers1 V0 S.f4]

theorem v10_is : W8 m ρ c (Proc.devRef .tc main_v10) = res_main_v35 V0 :=
  (at_v10 (W7 m ρ c)).trans ((congrArg₂ (chosenSims (F := Ideal))
    ((W7_of m ρ c main_v2_1 (by decide)).trans ((W6_of_ne m ρ c main_v2_1 (by decide)).trans (sims1 ρ S))) (v4_is ρ S)).trans (sims2 V0))

theorem v11_is : W10 m ρ c (Proc.devRef .tc main_v11) = filledSims (F := Ideal) (res_main_v35 V0) :=
  (at_v11 (W8 m ρ c)).trans (congrArg (filledSims (F := Ideal)) (v10_is ρ S))

theorem v12_is : W11 m ρ c (Proc.devRef .tc main_v12) = orders (filledSims (F := Ideal) (res_main_v35 V0)) :=
  (W11_arr m ρ c 1).trans (final2 (V10 m ρ) c _ (v11_is ρ S))

theorem v14_is : W12 m ρ c (Proc.devRef .tc main_v14) = third10 (res_main_indices_6 V0) := by
  refine (at_v14 (W11 m ρ c)).trans ?_
  rw [v12_is ρ S]
  exact congrArg third10 (choice2 V0)

theorem v9_kept : W12 m ρ c (Proc.devRef .tc main_v9) = recordA (recorded V0) :=
  (W12_of m ρ c main_v9 (by decide)).trans ((W11_of_ne m ρ c main_v9 (by decide)).trans ((W10_of m ρ c main_v9 (by decide)).trans ((W9_of m ρ c main_v9 (by decide)).trans
    ((W8_of m ρ c main_v9 (by decide)).trans (v9_is ρ S)))))

theorem v15_is : W13 m ρ c (Proc.devRef .tc main_v15) = takenB (recordA (recorded V0)) (res_main_indices_6 V0) :=
  (at_v15 (W12 m ρ c) _ (v14_is ρ S)).trans (congrArg (fun r => takenB r (res_main_indices_6 V0)) (v9_kept ρ S))

/-- The second record. -/
theorem v19_is : W14 m ρ c (Proc.devRef .tc main_v19) = recordB (takenB (recordA (recorded V0)) (res_main_indices_6 V0)) :=
  (at_v19 (W13 m ρ c)).trans (congrArg recordB (v15_is ρ S))

theorem v23_is : W14 m ρ c (Proc.devRef .tc main_v23) = numbers (recordB (takenB (recordA (recorded V0)) (res_main_indices_6 V0))) :=
  (at_v23 (W13 m ρ c)).trans (congrArg (fun t => numbers (recordB t)) (v15_is ρ S))

theorem v24_is : W15 m ρ c (Proc.devRef .tc main_v24) = columnsOf (F := Ideal) (A2 V0) (numbers (recordB (takenB (recordA (recorded V0)) (res_main_indices_6 V0)))) :=
  (at_v24 (W14 m ρ c) (A2 V0) ((at_v22 (W13 m ρ c)).trans (congrArg (fun X : FVec Ideal S64x100000 .f32 => transpose S100000x64 [1, 0] X transposes_S64x100000_S100000x64_1_0)
    ((W13_args m ρ c main_arg2 (by decide)).trans S.e2)))).trans (congrArg (columnsOf (F := Ideal) (A2 V0)) (v23_is ρ S))

/-- The reference's last choice. -/
abbrev last (V0 : Valuation Cert.ReferenceIdeal.τ Cert.ReferenceIdeal.sig (Elt Ideal)) : IVec Cert.ReferenceIdeal.S1024x5 32 :=
  (Host.topK Cert.ReferenceIdeal.S1024x5 1 (FloatOps.cmpfTotal .gt) (res_main_v46 V0) Cert.ReferenceIdeal.Gen.sliceFits_S1024x10_S1024x5).2

theorem v27_is : W16 m ρ c (Proc.devRef .tc main_v27) = third5 (last V0) := by
  refine (at_v27 (W15 m ρ c)).trans (congrArg third5 ?_)
  rw [v24_is ρ S]
  exact (congrArg (lastChoice (F := Ideal) _) ((W15_args m ρ c main_arg0 (by decide)).trans S.e0)).trans (choice3 V0 S.f4)

theorem v28_is : W17 m ρ c (Proc.devRef .tc main_v28) = takenC (recordB (takenB (recordA (recorded V0)) (res_main_indices_6 V0))) (last V0) :=
  (at_v28 (W16 m ρ c) _ (v27_is ρ S)).trans (congrArg (fun r => takenC r (last V0))
    ((W16_of m ρ c main_v19 (by decide)).trans ((W15_of m ρ c main_v19 (by decide)).trans (v19_is ρ S))))

/-! ## The five results -/

theorem end_v9 : W18 m ρ c (Proc.devRef .tc main_v9) = recordA (recorded V0) :=
  (W18_of m ρ c main_v9 (by decide)).trans ((W17_of m ρ c main_v9 (by decide)).trans ((W16_of m ρ c main_v9 (by decide)).trans ((W15_of m ρ c main_v9 (by decide)).trans
    ((W14_of m ρ c main_v9 (by decide)).trans ((W13_of m ρ c main_v9 (by decide)).trans (v9_kept ρ S))))))

theorem end_v19 : W18 m ρ c (Proc.devRef .tc main_v19) = recordB (takenB (recordA (recorded V0)) (res_main_indices_6 V0)) :=
  (W18_of m ρ c main_v19 (by decide)).trans ((W17_of m ρ c main_v19 (by decide)).trans ((W16_of m ρ c main_v19 (by decide)).trans ((W15_of m ρ c main_v19 (by decide)).trans (v19_is ρ S))))

theorem end_v32 : W18 m ρ c (Proc.devRef .tc main_v32) = recordC (takenC (recordB (takenB (recordA (recorded V0)) (res_main_indices_6 V0))) (last V0)) :=
  (at_v32 (W17 m ρ c)).trans (congrArg recordC (v28_is ρ S))

theorem end_v34 : W18 m ρ c (Proc.devRef .tc main_v34) = firsts (recordC (takenC (recordB (takenB (recordA (recorded V0)) (res_main_indices_6 V0))) (last V0))) :=
  (at_v34 (W17 m ρ c)).trans (congrArg (fun t => firsts (recordC t)) (v28_is ρ S))

omit S in
theorem end_v35 : W18 m ρ c (Proc.devRef .tc main_v35) = ones (F := Ideal) := at_v35 (W17 m ρ c)

end Cert.KernelIdeal.Net

end
-- ==== Proof.lean ====
/- The claims about the whole cascade: every run ends with its arguments as they were, and the kernel's five results are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Word.Frame
public import proofs.«01_k».proof.Proof.Run.Frame
public import proofs.«01_k».proof.Proof.Val.Whole
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Idealize.ShloMosaic.StableHlo Cert.Kernel Cert.Order Cert.Host

/-- The shapes the precondition's function takes. -/
theorem preFacts : Cert.Pre_plain.Facts where
  bcast_S_S1024x64 := by decide
  bcast_S_S64x100000 := by decide

/-- The reference ends with its arguments unchanged; it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

/-! ## What the precondition says -/

theorem greatest : Ideal.ofBits .f32 0x7F800000#32 = ⊤ := by decide +kernel

theorem finite_of {x : EReal} (h : Ideal.cmp .olt (max x (-x)) (Ideal.ofBits .f32 0x7F800000#32) = 1#1) : x ≠ ⊥ ∧ x ≠ ⊤ := by
  rw [greatest] at h
  constructor
  · rintro rfl
    simp [Ideal.cmp] at h
  · rintro rfl
    simp [Ideal.cmp] at h

theorem equal_of {x y : BitVec 32} (h : IntOp.cmpi .eq x y = 1#1) : x = y := by
  by_contra hne
  have e : IntOp.cmpi .eq x y = 0#1 := by
    show BitVec.ofBool (x == y) = 0#1
    rw [beq_false_of_ne hne]
    rfl
  rw [e] at h
  exact absurd h (by decide)

theorem unset_of : ∀ {x : BitVec 1}, ~~~x = 1#1 → x = 0#1 := by decide

/-- Launched alike, on arguments the precondition allows. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_plain (hPre_plain := preFacts) m) (c : Dev Cert.KernelIdeal.nD)
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.KernelIdeal.Net.Same (launchContents m' c) m c := by
  obtain ⟨e0, e1, e2, e3, e4, e5⟩ := hm
  obtain ⟨p0, p2, p4, p5⟩ := hp c
  refine ⟨e0.symm, e1.symm, e2.symm, e3.symm, fun j => ?_, fun j => ?_, fun j => ?_, fun j => ?_⟩
  · exact (congrArg (fun x : Cert.ReferenceIdeal.S1024x64.Idx → EReal => x j ≠ ⊥ ∧ x j ≠ ⊤) e0).mpr (finite_of (congrFun p0 j))
  · exact (congrArg (fun x : Cert.ReferenceIdeal.S64x100000.Idx → EReal => x j ≠ ⊥ ∧ x j ≠ ⊤) e2).mpr (finite_of (congrFun p2 j))
  · exact (congrFun e4 j).trans (equal_of (congrFun p4 j))
  · exact (congrFun e5 j).trans (unset_of (congrFun p5 j))

/-- Both programs end with the same records, choices and ones. -/
theorem agree : Cert.algebraic_KernelIdeal_ReferenceIdeal_pre_plain (hKernelIdeal := Cert.KernelIdeal.Gen.facts) (hReferenceIdeal := Cert.ReferenceIdeal.Gen.facts)
    (hPre_plain := preFacts) := by
  intro m g m' g' hp hm
  have S := fun c => same m m' hp c (hm c)
  refine ⟨fun c => firsts (recordC (takenC (recordB (takenB (recordA (Cert.ReferenceIdeal.Value.recorded (launchContents m' c))) (Cert.ReferenceIdeal.Value.res_main_indices_6 (launchContents m' c)))) (Cert.KernelIdeal.Net.last (launchContents m' c)))),
    fun c => recordA (Cert.ReferenceIdeal.Value.recorded (launchContents m' c)),
    fun c => recordB (takenB (recordA (Cert.ReferenceIdeal.Value.recorded (launchContents m' c))) (Cert.ReferenceIdeal.Value.res_main_indices_6 (launchContents m' c))),
    fun c => recordC (takenC (recordB (takenB (recordA (Cert.ReferenceIdeal.Value.recorded (launchContents m' c))) (Cert.ReferenceIdeal.Value.res_main_indices_6 (launchContents m' c)))) (Cert.KernelIdeal.Net.last (launchContents m' c))),
    fun _ => ones (F := Ideal), ?_, ?_⟩
  · refine (θ_run Cert.KernelIdeal.defs _ _).mono (fun r h c => ?_) (Cert.KernelIdeal.Net.run_ends m g)
    have hd := fun b hb => h.1 c (Proc.devRef .tc b) (Cert.KernelIdeal.Net.mem_uc b hb)
    exact ⟨(hd Cert.KernelIdeal.main_v34 (by decide)).trans (Cert.KernelIdeal.Net.end_v34 g (S c)),
      (hd Cert.KernelIdeal.main_v9 (by decide)).trans (Cert.KernelIdeal.Net.end_v9 g (S c)),
      (hd Cert.KernelIdeal.main_v19 (by decide)).trans (Cert.KernelIdeal.Net.end_v19 g (S c)),
      (hd Cert.KernelIdeal.main_v32 (by decide)).trans (Cert.KernelIdeal.Net.end_v32 g (S c)),
      (hd Cert.KernelIdeal.main_v35 (by decide)).trans (Cert.KernelIdeal.Net.end_v35 g),
      (hd Cert.KernelIdeal.main_arg0 (by decide)).trans (Cert.KernelIdeal.Net.W18_main_arg0 m g c),
      (hd Cert.KernelIdeal.main_arg1 (by decide)).trans (Cert.KernelIdeal.Net.W18_main_arg1 m g c),
      (hd Cert.KernelIdeal.main_arg2 (by decide)).trans (Cert.KernelIdeal.Net.W18_main_arg2 m g c),
      (hd Cert.KernelIdeal.main_arg3 (by decide)).trans (Cert.KernelIdeal.Net.W18_main_arg3 m g c),
      (hd Cert.KernelIdeal.main_arg4 (by decide)).trans (Cert.KernelIdeal.Net.W18_main_arg4 m g c),
      (hd Cert.KernelIdeal.main_arg5 (by decide)).trans (Cert.KernelIdeal.Net.W18_main_arg5 m g c)⟩
  · refine (θ_run Cert.ReferenceIdeal.defs _ _).mono (fun r h c => ?_) (Cert.ReferenceIdeal.Value.run (F := Ideal) m' g')
    exact h c

theorem claim : Cert.Claim := ⟨Cert.Kernel.Gen.facts, Cert.KernelIdeal.Gen.facts, Cert.ReferenceIdeal.Gen.facts, preFacts,
  fun m g _ => Cert.Kernel.Net.frame m g, fun m g _ => Cert.KernelIdeal.Net.frame m g, fun m g _ => Cert.KernelIdeal.Net.frame m g,
  frame_reference, fun m g _ => frame_reference m g trivial, trivial, agree⟩

end Cert.Proof

end
